-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1600000x3 : Shape := ⟨2, ![1600000, 3]⟩
abbrev S28 : Shape := ⟨1, ![28]⟩
abbrev S3x28 : Shape := ⟨2, ![3, 28]⟩
abbrev S16 : Shape := ⟨1, ![16]⟩
abbrev S_ : Shape := ⟨0, ![]⟩
abbrev S1600000x1 : Shape := ⟨2, ![1600000, 1]⟩
abbrev S1600000 : Shape := ⟨1, ![1600000]⟩

class Facts : Prop where
  reducesTo_S28_S_d0 : S28.ReducesTo [0] S_
  h_S_ : 0 < S_.numel
  reducesTo_S3x28_S_d0_1 : S3x28.ReducesTo [0, 1] S_
  bcast_S_S1600000x3 : S_.BroadcastsInDim S1600000x3 (![] : Fin 0 → Fin S1600000x3.rank)
  reducesTo_S1600000x3_S_d0_1 : S1600000x3.ReducesTo [0, 1] S_
  slices_S1600000x3_S1600000x1_0_0 : S1600000x3.Slices ![0, 0] S1600000x1
  shapeCasts_S1600000x1_S1600000 : S1600000x1.ShapeCasts S1600000
  bcast_S_S1600000 : S_.BroadcastsInDim S1600000 (![] : Fin 0 → Fin S1600000.rank)
  reducesTo_S1600000_S_d0 : S1600000.ReducesTo [0] S_
  bcast_S_S28 : S_.BroadcastsInDim S28 (![] : Fin 0 → Fin S28.rank)
  bcast_S_S16 : S_.BroadcastsInDim S16 (![] : Fin 0 → Fin S16.rank)
  reducesTo_S16_S_d0 : S16.ReducesTo [0] S_

variable [Facts]

noncomputable abbrev lit0 : Fin 28 → BitVec 32 := fun
  | 0 => 0#32 | 1 => 1#32 | 2 => 2#32 | 3 => 3#32 | 4 => 4#32 | 5 => 5#32 | 6 => 6#32 | 7 => 6#32
  | 8 => 6#32 | 9 => 7#32 | 10 => 8#32 | 11 => 8#32 | 12 => 9#32 | 13 => 9#32 | 14 => 10#32 | 15 => 11#32
  | 16 => 11#32 | 17 => 11#32 | 18 => 12#32 | 19 => 12#32 | 20 => 12#32 | 21 => 13#32 | 22 => 13#32 | 23 => 13#32
  | 24 => 14#32 | 25 => 14#32 | 26 => 15#32 | 27 => 15#32
  | _ => 0#32

noncomputable abbrev lit1 : Fin 84 → BitVec 32 := fun
  | 0 => 0#32 | 1 => 1#32 | 2 => 0#32 | 3 => 1#32 | 4 => 2#32 | 5 => 1#32 | 6 => 0#32 | 7 => 0#32
  | 8 => 4294967294#32 | 9 => 1#32 | 10 => 2#32 | 11 => 2#32 | 12 => 3#32 | 13 => 3#32 | 14 => 2#32 | 15 => 1#32
  | 16 => 1#32 | 17 => 4294967295#32 | 18 => 0#32 | 19 => 0#32 | 20 => 4294967294#32 | 21 => 1#32 | 22 => 1#32 | 23 => 4294967295#32
  | 24 => 2#32 | 25 => 2#32 | 26 => 3#32 | 27 => 3#32 | 28 => 0#32 | 29 => 1#32 | 30 => 0#32 | 31 => 0#32
  | 32 => 1#32 | 33 => 1#32 | 34 => 0#32 | 35 => 0#32 | 36 => 2#32 | 37 => 0#32 | 38 => 0#32 | 39 => 2#32
  | 40 => 1#32 | 41 => 3#32 | 42 => 1#32 | 43 => 1#32 | 44 => 1#32 | 45 => 3#32 | 46 => 0#32 | 47 => 0#32
  | 48 => 2#32 | 49 => 0#32 | 50 => 0#32 | 51 => 2#32 | 52 => 0#32 | 53 => 2#32 | 54 => 0#32 | 55 => 2#32
  | 56 => 0#32 | 57 => 0#32 | 58 => 1#32 | 59 => 0#32 | 60 => 0#32 | 61 => 1#32 | 62 => 2#32 | 63 => 0#32
  | 64 => 0#32 | 65 => 1#32 | 66 => 0#32 | 67 => 0#32 | 68 => 0#32 | 69 => 0#32 | 70 => 1#32 | 71 => 2#32
  | 72 => 0#32 | 73 => 0#32 | 74 => 3#32 | 75 => 1#32 | 76 => 1#32 | 77 => 2#32 | 78 => 0#32 | 79 => 0#32
  | 80 => 1#32 | 81 => 1#32 | 82 => 0#32 | 83 => 0#32
  | _ => 0#32

def fn_part1 {F : FTy → Type} [FloatOps F] (main_arg2 : FVec F S28 .f32) (main_arg4 : FVec F S16 .f32) (main_v15 : IVec S_ 1) : IVec S_ 1 :=
  let main_v16 : FVec F S28 .f32 := Host.absf main_arg2
  let main_cst_6 : FVec F S_ .f32 := constant S_ .f32 0x7F800000#32
  let main_v17 : FVec F S28 .f32 := broadcastInDim S28 ![] bcast_S_S28 main_cst_6
  let main_v18 : IVec S28 1 := cmpf .olt main_v16 main_v17
  let main_c_7 : IVec S_ 1 := constantI S_ 1 1#1
  let main_v19 : IVec S_ 1 := (fun x v => Host.reduce IntOp.andi x v reducesTo_S28_S_d0 h_S_) main_v18 main_c_7
  let main_v20 : IVec S_ 1 := andi main_v15 main_v19
  let main_v21 : FVec F S16 .f32 := Host.absf main_arg4
  let main_cst_8 : FVec F S_ .f32 := constant S_ .f32 0x7F800000#32
  let main_v22 : FVec F S16 .f32 := broadcastInDim S16 ![] bcast_S_S16 main_cst_8
  let main_v23 : IVec S16 1 := cmpf .olt main_v21 main_v22
  let main_c_9 : IVec S_ 1 := constantI S_ 1 1#1
  let main_v24 : IVec S_ 1 := (fun x v => Host.reduce IntOp.andi x v reducesTo_S16_S_d0 h_S_) main_v23 main_c_9
  let main_v25 : IVec S_ 1 := andi main_v20 main_v24
  main_v25

def fn {F : FTy → Type} [FloatOps F] (main_arg0 : FVec F S1600000x3 .f32) (main_arg1 : IVec S28 32) (main_arg2 : FVec F S28 .f32) (main_arg3 : IVec S3x28 32) (main_arg4 : FVec F S16 .f32) : IVec S_ 1 :=
  let main_c : IVec S28 32 := fun i => lit0 (S28.rowMajor i)
  let main_c_0 : IVec S3x28 32 := fun i => lit1 (S3x28.rowMajor i)
  let main_v0 : IVec S28 1 := cmpi .eq main_arg1 main_c
  let main_c_1 : IVec S_ 1 := constantI S_ 1 1#1
  let main_v1 : IVec S_ 1 := (fun x v => Host.reduce IntOp.andi x v reducesTo_S28_S_d0 h_S_) main_v0 main_c_1
  let main_v2 : IVec S3x28 1 := cmpi .eq main_arg3 main_c_0
  let main_c_2 : IVec S_ 1 := constantI S_ 1 1#1
  let main_v3 : IVec S_ 1 := (fun x v => Host.reduce IntOp.andi x v reducesTo_S3x28_S_d0_1 h_S_) main_v2 main_c_2
  let main_v4 : IVec S_ 1 := andi main_v1 main_v3
  let main_v5 : FVec F S1600000x3 .f32 := Host.absf main_arg0
  let main_cst : FVec F S_ .f32 := constant S_ .f32 0x7F800000#32
  let main_v6 : FVec F S1600000x3 .f32 := broadcastInDim S1600000x3 ![] bcast_S_S1600000x3 main_cst
  let main_v7 : IVec S1600000x3 1 := cmpf .olt main_v5 main_v6
  let main_c_3 : IVec S_ 1 := constantI S_ 1 1#1
  let main_v8 : IVec S_ 1 := (fun x v => Host.reduce IntOp.andi x v reducesTo_S1600000x3_S_d0_1 h_S_) main_v7 main_c_3
  let main_v9 : IVec S_ 1 := andi main_v4 main_v8
  let main_v10 : FVec F S1600000x1 .f32 := (extractStridedSlice S1600000x1 ![0, 0] · slices_S1600000x3_S1600000x1_0_0) main_arg0
  let main_v11 : FVec F S1600000 .f32 := shapeCast S1600000 main_v10 shapeCasts_S1600000x1_S1600000
  let main_cst_4 : FVec F S_ .f32 := constant S_ .f32 0x00000000#32
  let main_v12 : FVec F S1600000 .f32 := broadcastInDim S1600000 ![] bcast_S_S1600000 main_cst_4
  let main_v13 : IVec S1600000 1 := cmpf .une main_v11 main_v12
  let main_c_5 : IVec S_ 1 := constantI S_ 1 1#1
  let main_v14 : IVec S_ 1 := (fun x v => Host.reduce IntOp.andi x v reducesTo_S1600000_S_d0 h_S_) main_v13 main_c_5
  let main_v15 : IVec S_ 1 := andi main_v9 main_v14
  fn_part1 (F := F) main_arg2 main_arg4 main_v15
-- ==== Kernel.lean ====
abbrev S1600000x3 : Shape := ⟨2, ![1600000, 3]⟩
abbrev S28 : Shape := ⟨1, ![28]⟩
abbrev S3x28 : Shape := ⟨2, ![3, 28]⟩
abbrev S16 : Shape := ⟨1, ![16]⟩
abbrev S3x1600000 : Shape := ⟨2, ![3, 1600000]⟩
abbrev S3x12500x128 : Shape := ⟨3, ![3, 12500, 128]⟩
abbrev S12500x3x128 : Shape := ⟨3, ![12500, 3, 128]⟩
abbrev S4800000 : Shape := ⟨1, ![4800000]⟩
abbrev S_ : Shape := ⟨0, ![]⟩
abbrev S4 : Shape := ⟨1, ![4]⟩
abbrev S32 : Shape := ⟨1, ![32]⟩
abbrev S25600000 : Shape := ⟨1, ![25600000]⟩
abbrev S3840 : Shape := ⟨1, ![3840]⟩
abbrev S10240 : Shape := ⟨1, ![10240]⟩
abbrev S1 : Shape := ⟨1, ![1]⟩
abbrev S2x12500x8x128 : Shape := ⟨4, ![2, 12500, 8, 128]⟩
abbrev S12500x128x2x8 : Shape := ⟨4, ![12500, 128, 2, 8]⟩
abbrev S1600000x16 : Shape := ⟨2, ![1600000, 16]⟩

abbrev nBuf : Table → Nat
  | .hbm => 16
  | .local .scVector .vmem => 8
  | _ => 0

abbrev bufTy : (tb : Table) → Fin (nBuf tb) → BufTy
  | .hbm, ⟨0, _⟩ => ⟨S1600000x3, .f32⟩
  | .hbm, ⟨1, _⟩ => ⟨S28, .i32⟩
  | .hbm, ⟨2, _⟩ => ⟨S28, .f32⟩
  | .hbm, ⟨3, _⟩ => ⟨S3x28, .i32⟩
  | .hbm, ⟨4, _⟩ => ⟨S16, .f32⟩
  | .hbm, ⟨5, _⟩ => ⟨S3x1600000, .f32⟩
  | .hbm, ⟨6, _⟩ => ⟨S3x12500x128, .f32⟩
  | .hbm, ⟨7, _⟩ => ⟨S12500x3x128, .f32⟩
  | .hbm, ⟨8, _⟩ => ⟨S4800000, .f32⟩
  | .hbm, ⟨9, _⟩ => ⟨S_, .f32⟩
  | .hbm, ⟨10, _⟩ => ⟨S4, .f32⟩
  | .hbm, ⟨11, _⟩ => ⟨S32, .f32⟩
  | .hbm, ⟨12, _⟩ => ⟨S25600000, .f32⟩
  | .hbm, ⟨13, _⟩ => ⟨S2x12500x8x128, .f32⟩
  | .hbm, ⟨14, _⟩ => ⟨S12500x128x2x8, .f32⟩
  | .hbm, ⟨15, _⟩ => ⟨S1600000x16, .f32⟩
  | .local .scVector .vmem, ⟨0, _⟩ => ⟨S3840, .f32⟩
  | .local .scVector .vmem, ⟨1, _⟩ => ⟨S3840, .f32⟩
  | .local .scVector .vmem, ⟨2, _⟩ => ⟨S10240, .f32⟩
  | .local .scVector .vmem, ⟨3, _⟩ => ⟨S10240, .f32⟩
  | .local .scVector .vmem, ⟨4, _⟩ => ⟨S10240, .f32⟩
  | .local .scVector .vmem, ⟨5, _⟩ => ⟨S10240, .f32⟩
  | .local .scVector .vmem, ⟨6, _⟩ => ⟨S32, .f32⟩
  | .local .scVector .vmem, ⟨7, _⟩ => ⟨S16, .f32⟩
  | _, _ => ⟨S1600000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v3_scv : Ref sig .scVector := ⟨.hbm, 8, rfl⟩
abbrev main_v5_scv : Ref sig .scVector := ⟨.hbm, 11, rfl⟩
abbrev main_arg4_scv : Ref sig .scVector := ⟨.hbm, 4, rfl⟩
abbrev main_v6_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_6 : BitVec 32 := 0#32
  let v22 : BitVec 1 := Scalar.cmpi .sgt v21 c0_i32_6
  let v23 : BitVec 32 := Scalar.extui v22
  let c0_i32_7 : BitVec 32 := 0#32
  let v24 : BitVec 1 := Scalar.cmpi .ne v23 c0_i32_7
  v24

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3840_i32 : BitVec 32 := 3840#32
  let v239 : BitVec 32 := Scalar.muli v1 c3840_i32
  ![v239.toNat]
@[reducible] def k0_t1_loop (i : grid0.Coords) : Scf.Loop 32 :=
  let c0_i32_10 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_12 : BitVec 32 := 1#32
  ⟨c0_i32_10, v174, c1_i32_12⟩
def k0_cond2 (i : grid0.Coords) (k0_t1 : Fin (k0_t1_loop i).trips) : BitVec 1 :=
  let c0_i32_10 : BitVec 32 := 0#32
  let c1_i32_12 : BitVec 32 := 1#32
  let arg18 : BitVec 32 := Scf.iv c0_i32_10 c1_i32_12 k0_t1
  let c1_i32_54 : BitVec 32 := 1#32
  let v239 : BitVec 32 := Scalar.andi arg18 c1_i32_54
  let c0_i32_55 : BitVec 32 := 0#32
  let v240 : BitVec 1 := Scalar.cmpi .eq v239 c0_i32_55
  let v241 : BitVec 32 := Scalar.extui v240
  let c0_i32_56 : BitVec 32 := 0#32
  let v242 : BitVec 1 := Scalar.cmpi .ne v241 c0_i32_56
  v242

def k0_cond3 (i : grid0.Coords) (k0_t1 : Fin (k0_t1_loop i).trips) : BitVec 1 :=
  let c0_i32_10 : BitVec 32 := 0#32
  let c1_i32_12 : BitVec 32 := 1#32
  let arg18 : BitVec 32 := Scf.iv c0_i32_10 c1_i32_12 k0_t1
  let c1_i32_63 : BitVec 32 := 1#32
  let v251 : BitVec 32 := Scalar.addi arg18 c1_i32_63
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v252 : BitVec 1 := Scalar.cmpi .slt v251 v21
  let v253 : BitVec 32 := Scalar.extui v252
  let c0_i32_64 : BitVec 32 := 0#32
  let v254 : BitVec 1 := Scalar.cmpi .ne v253 c0_i32_64
  v254

def k0_off2 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1_i32_12 : BitVec 32 := 1#32
  let arg18 : BitVec 32 := Scf.iv c0_i32_10 c1_i32_12 k0_t1
  let c1_i32_72 : BitVec 32 := 1#32
  let v266 : BitVec 32 := Scalar.addi arg18 c1_i32_72
  let c32_i32_73 : BitVec 32 := 32#32
  let v267 : BitVec 32 := Scalar.muli v266 c32_i32_73
  let v268 : BitVec 32 := Scalar.addi v1 v267
  let c3840_i32 : BitVec 32 := 3840#32
  let v269 : BitVec 32 := Scalar.muli v268 c3840_i32
  ![v269.toNat]
@[reducible] def k0_t2_loop : Scf.Loop 32 :=
  let c0_i32_68 : BitVec 32 := 0#32
  let c80_i32 : BitVec 32 := 80#32
  let v258 : BitVec 32 := Scalar.addi c0_i32_68 c80_i32
  let c1_i32_69 : BitVec 32 := 1#32
  ⟨c0_i32_68, v258, c1_i32_69⟩
def k0_off3 (k0_t2 : Fin k0_t2_loop.trips) : Fin 1 → Nat :=
  let c0_i32_68 : BitVec 32 := 0#32
  let c1_i32_69 : BitVec 32 := 1#32
  let arg19 : BitVec 32 := Scf.iv c0_i32_68 c1_i32_69 k0_t2
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v271 : Index := Scalar.indexCast v270
  ![v271.toNat]
def k0_off4 (k0_t2 : Fin k0_t2_loop.trips) (c128_i32 : BitVec 32) : Fin 1 → Nat :=
  let c0_i32_68 : BitVec 32 := 0#32
  let c1_i32_69 : BitVec 32 := 1#32
  let arg19 : BitVec 32 := Scf.iv c0_i32_68 c1_i32_69 k0_t2
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v273 : BitVec 32 := Scalar.addi v270 c128_i32
  let v274 : Index := Scalar.indexCast v273
  ![v274.toNat]
def k0_off5 (k0_t2 : Fin k0_t2_loop.trips) (c0_i32_75 : BitVec 32) : Fin 1 → Nat :=
  let c0_i32_68 : BitVec 32 := 0#32
  let c1_i32_69 : BitVec 32 := 1#32
  let arg19 : BitVec 32 := Scf.iv c0_i32_68 c1_i32_69 k0_t2
  let c3_i32_72 : BitVec 32 := 3#32
  let v365 : BitVec 32 := Scalar.shrsi arg19 c3_i32_72
  let c10_i32 : BitVec 32 := 10#32
  let v366 : BitVec 32 := Scalar.shli v365 c10_i32
  let c7_i32_73 : BitVec 32 := 7#32
  let v367 : BitVec 32 := Scalar.andi arg19 c7_i32_73
  let c4_i32_74 : BitVec 32 := 4#32
  let v368 : BitVec 32 := Scalar.shli v367 c4_i32_74
  let v369 : BitVec 32 := Scalar.addi v366 v368
  let v370 : BitVec 32 := Scalar.addi v369 c0_i32_75
  let v371 : Index := Scalar.indexCast v370
  ![v371.toNat]
def k0_off6 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1_i32_12 : BitVec 32 := 1#32
  let arg18 : BitVec 32 := Scf.iv c0_i32_10 c1_i32_12 k0_t1
  let c32_i32_60 : BitVec 32 := 32#32
  let v247 : BitVec 32 := Scalar.muli arg18 c32_i32_60
  let v248 : BitVec 32 := Scalar.addi v1 v247
  let c10240_i32 : BitVec 32 := 10240#32
  let v259 : BitVec 32 := Scalar.muli v248 c10240_i32
  ![v259.toNat]
def k0_off7 (i : grid0.Coords) (k0_t1 : Fin (k0_t1_loop i).trips) : Fin 1 → Nat :=
  let c12800000_i32 : BitVec 32 := 12800000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1_i32_12 : BitVec 32 := 1#32
  let arg18 : BitVec 32 := Scf.iv c0_i32_10 c1_i32_12 k0_t1
  let c32_i32_60 : BitVec 32 := 32#32
  let v247 : BitVec 32 := Scalar.muli arg18 c32_i32_60
  let v248 : BitVec 32 := Scalar.addi v1 v247
  let c10240_i32_71 : BitVec 32 := 10240#32
  let v262 : BitVec 32 := Scalar.muli v248 c10240_i32_71
  let v263 : BitVec 32 := Scalar.addi c12800000_i32 v262
  ![v263.toNat]
def k0_cond5 (i : grid0.Coords) (k0_t1 : Fin (k0_t1_loop i).trips) : BitVec 1 :=
  let c0_i32_10 : BitVec 32 := 0#32
  let c1_i32_12 : BitVec 32 := 1#32
  let arg18 : BitVec 32 := Scf.iv c0_i32_10 c1_i32_12 k0_t1
  let c1_i32_57 : BitVec 32 := 1#32
  let v243 : BitVec 32 := Scalar.andi arg18 c1_i32_57
  let c1_i32_58 : BitVec 32 := 1#32
  let v244 : BitVec 1 := Scalar.cmpi .eq v243 c1_i32_58
  let v245 : BitVec 32 := Scalar.extui v244
  let c0_i32_59 : BitVec 32 := 0#32
  let v246 : BitVec 1 := Scalar.cmpi .ne v245 c0_i32_59
  v246

def k0_cond6 (i : grid0.Coords) (k0_t1 : Fin (k0_t1_loop i).trips) : BitVec 1 :=
  let c0_i32_10 : BitVec 32 := 0#32
  let c1_i32_12 : BitVec 32 := 1#32
  let arg18 : BitVec 32 := Scf.iv c0_i32_10 c1_i32_12 k0_t1
  let c1_i32_63 : BitVec 32 := 1#32
  let v251 : BitVec 32 := Scalar.addi arg18 c1_i32_63
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v252 : BitVec 1 := Scalar.cmpi .slt v251 v21
  let v253 : BitVec 32 := Scalar.extui v252
  let c0_i32_64 : BitVec 32 := 0#32
  let v254 : BitVec 1 := Scalar.cmpi .ne v253 c0_i32_64
  v254

def k0_off8 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1_i32_12 : BitVec 32 := 1#32
  let arg18 : BitVec 32 := Scf.iv c0_i32_10 c1_i32_12 k0_t1
  let c1_i32_72 : BitVec 32 := 1#32
  let v266 : BitVec 32 := Scalar.addi arg18 c1_i32_72
  let c32_i32_73 : BitVec 32 := 32#32
  let v267 : BitVec 32 := Scalar.muli v266 c32_i32_73
  let v268 : BitVec 32 := Scalar.addi v1 v267
  let c3840_i32 : BitVec 32 := 3840#32
  let v269 : BitVec 32 := Scalar.muli v268 c3840_i32
  ![v269.toNat]
@[reducible] def k0_t3_loop : Scf.Loop 32 :=
  let c0_i32_68 : BitVec 32 := 0#32
  let c80_i32 : BitVec 32 := 80#32
  let v258 : BitVec 32 := Scalar.addi c0_i32_68 c80_i32
  let c1_i32_69 : BitVec 32 := 1#32
  ⟨c0_i32_68, v258, c1_i32_69⟩
def k0_off9 (k0_t3 : Fin k0_t3_loop.trips) : Fin 1 → Nat :=
  let c0_i32_68 : BitVec 32 := 0#32
  let c1_i32_69 : BitVec 32 := 1#32
  let arg19 : BitVec 32 := Scf.iv c0_i32_68 c1_i32_69 k0_t3
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v271 : Index := Scalar.indexCast v270
  ![v271.toNat]
def k0_off10 (k0_t3 : Fin k0_t3_loop.trips) (c128_i32 : BitVec 32) : Fin 1 → Nat :=
  let c0_i32_68 : BitVec 32 := 0#32
  let c1_i32_69 : BitVec 32 := 1#32
  let arg19 : BitVec 32 := Scf.iv c0_i32_68 c1_i32_69 k0_t3
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v273 : BitVec 32 := Scalar.addi v270 c128_i32
  let v274 : Index := Scalar.indexCast v273
  ![v274.toNat]
def k0_off11 (k0_t3 : Fin k0_t3_loop.trips) (c0_i32_75 : BitVec 32) : Fin 1 → Nat :=
  let c0_i32_68 : BitVec 32 := 0#32
  let c1_i32_69 : BitVec 32 := 1#32
  let arg19 : BitVec 32 := Scf.iv c0_i32_68 c1_i32_69 k0_t3
  let c3_i32_72 : BitVec 32 := 3#32
  let v365 : BitVec 32 := Scalar.shrsi arg19 c3_i32_72
  let c10_i32 : BitVec 32 := 10#32
  let v366 : BitVec 32 := Scalar.shli v365 c10_i32
  let c7_i32_73 : BitVec 32 := 7#32
  let v367 : BitVec 32 := Scalar.andi arg19 c7_i32_73
  let c4_i32_74 : BitVec 32 := 4#32
  let v368 : BitVec 32 := Scalar.shli v367 c4_i32_74
  let v369 : BitVec 32 := Scalar.addi v366 v368
  let v370 : BitVec 32 := Scalar.addi v369 c0_i32_75
  let v371 : Index := Scalar.indexCast v370
  ![v371.toNat]
def k0_off12 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1_i32_12 : BitVec 32 := 1#32
  let arg18 : BitVec 32 := Scf.iv c0_i32_10 c1_i32_12 k0_t1
  let c32_i32_60 : BitVec 32 := 32#32
  let v247 : BitVec 32 := Scalar.muli arg18 c32_i32_60
  let v248 : BitVec 32 := Scalar.addi v1 v247
  let c10240_i32 : BitVec 32 := 10240#32
  let v259 : BitVec 32 := Scalar.muli v248 c10240_i32
  ![v259.toNat]
def k0_off13 (i : grid0.Coords) (k0_t1 : Fin (k0_t1_loop i).trips) : Fin 1 → Nat :=
  let c12800000_i32 : BitVec 32 := 12800000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1_i32_12 : BitVec 32 := 1#32
  let arg18 : BitVec 32 := Scf.iv c0_i32_10 c1_i32_12 k0_t1
  let c32_i32_60 : BitVec 32 := 32#32
  let v247 : BitVec 32 := Scalar.muli arg18 c32_i32_60
  let v248 : BitVec 32 := Scalar.addi v1 v247
  let c10240_i32_71 : BitVec 32 := 10240#32
  let v262 : BitVec 32 := Scalar.muli v248 c10240_i32_71
  let v263 : BitVec 32 := Scalar.addi c12800000_i32 v262
  ![v263.toNat]
@[reducible] def k0_t4_loop (i : grid0.Coords) : Scf.Loop 32 :=
  let c0_i32_10 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let v171 : BitVec 32 := Scalar.addi c0_i32_10 v170
  let c1_i32_13 : BitVec 32 := 1#32
  ⟨v174, v171, c1_i32_13⟩
def k0_cond8 (i : grid0.Coords) (k0_t4 : Fin (k0_t4_loop i).trips) : BitVec 1 :=
  let c0_i32_10 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c1_i32_54 : BitVec 32 := 1#32
  let v239 : BitVec 32 := Scalar.andi arg18 c1_i32_54
  let c0_i32_55 : BitVec 32 := 0#32
  let v240 : BitVec 1 := Scalar.cmpi .eq v239 c0_i32_55
  let v241 : BitVec 32 := Scalar.extui v240
  let c0_i32_56 : BitVec 32 := 0#32
  let v242 : BitVec 1 := Scalar.cmpi .ne v241 c0_i32_56
  v242

def k0_cond9 (i : grid0.Coords) (k0_t4 : Fin (k0_t4_loop i).trips) : BitVec 1 :=
  let c0_i32_10 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c1_i32_63 : BitVec 32 := 1#32
  let v251 : BitVec 32 := Scalar.addi arg18 c1_i32_63
  let v252 : BitVec 1 := Scalar.cmpi .slt v251 v21
  let v253 : BitVec 32 := Scalar.extui v252
  let c0_i32_64 : BitVec 32 := 0#32
  let v254 : BitVec 1 := Scalar.cmpi .ne v253 c0_i32_64
  v254

def k0_off14 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1250_i32 : BitVec 32 := 1250#32
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c1_i32_72 : BitVec 32 := 1#32
  let v266 : BitVec 32 := Scalar.addi arg18 c1_i32_72
  let c32_i32_73 : BitVec 32 := 32#32
  let v267 : BitVec 32 := Scalar.muli v266 c32_i32_73
  let v268 : BitVec 32 := Scalar.addi v1 v267
  let c3840_i32 : BitVec 32 := 3840#32
  let v269 : BitVec 32 := Scalar.muli v268 c3840_i32
  ![v269.toNat]
@[reducible] def k0_t5_loop : Scf.Loop 32 :=
  let c0_i32_68 : BitVec 32 := 0#32
  let c80_i32 : BitVec 32 := 80#32
  let v258 : BitVec 32 := Scalar.addi c0_i32_68 c80_i32
  let c1_i32_69 : BitVec 32 := 1#32
  ⟨c0_i32_68, v258, c1_i32_69⟩
def k0_off15 (k0_t5 : Fin k0_t5_loop.trips) : Fin 1 → Nat :=
  let c0_i32_68 : BitVec 32 := 0#32
  let c1_i32_69 : BitVec 32 := 1#32
  let arg19 : BitVec 32 := Scf.iv c0_i32_68 c1_i32_69 k0_t5
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v271 : Index := Scalar.indexCast v270
  ![v271.toNat]
def k0_off16 (k0_t5 : Fin k0_t5_loop.trips) (c128_i32 : BitVec 32) : Fin 1 → Nat :=
  let c0_i32_68 : BitVec 32 := 0#32
  let c1_i32_69 : BitVec 32 := 1#32
  let arg19 : BitVec 32 := Scf.iv c0_i32_68 c1_i32_69 k0_t5
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v273 : BitVec 32 := Scalar.addi v270 c128_i32
  let v274 : Index := Scalar.indexCast v273
  ![v274.toNat]
def k0_off17 (k0_t5 : Fin k0_t5_loop.trips) (c0_i32_75 : BitVec 32) : Fin 1 → Nat :=
  let c0_i32_68 : BitVec 32 := 0#32
  let c1_i32_69 : BitVec 32 := 1#32
  let arg19 : BitVec 32 := Scf.iv c0_i32_68 c1_i32_69 k0_t5
  let c3_i32_72 : BitVec 32 := 3#32
  let v365 : BitVec 32 := Scalar.shrsi arg19 c3_i32_72
  let c10_i32 : BitVec 32 := 10#32
  let v366 : BitVec 32 := Scalar.shli v365 c10_i32
  let c7_i32_73 : BitVec 32 := 7#32
  let v367 : BitVec 32 := Scalar.andi arg19 c7_i32_73
  let c4_i32_74 : BitVec 32 := 4#32
  let v368 : BitVec 32 := Scalar.shli v367 c4_i32_74
  let v369 : BitVec 32 := Scalar.addi v366 v368
  let v370 : BitVec 32 := Scalar.addi v369 c0_i32_75
  let v371 : Index := Scalar.indexCast v370
  ![v371.toNat]
def k0_off18 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1250_i32 : BitVec 32 := 1250#32
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c32_i32_60 : BitVec 32 := 32#32
  let v247 : BitVec 32 := Scalar.muli arg18 c32_i32_60
  let v248 : BitVec 32 := Scalar.addi v1 v247
  let c10240_i32 : BitVec 32 := 10240#32
  let v259 : BitVec 32 := Scalar.muli v248 c10240_i32
  ![v259.toNat]
def k0_off19 (i : grid0.Coords) (k0_t4 : Fin (k0_t4_loop i).trips) : Fin 1 → Nat :=
  let c12800000_i32 : BitVec 32 := 12800000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1250_i32 : BitVec 32 := 1250#32
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c32_i32_60 : BitVec 32 := 32#32
  let v247 : BitVec 32 := Scalar.muli arg18 c32_i32_60
  let v248 : BitVec 32 := Scalar.addi v1 v247
  let c10240_i32_71 : BitVec 32 := 10240#32
  let v262 : BitVec 32 := Scalar.muli v248 c10240_i32_71
  let v263 : BitVec 32 := Scalar.addi c12800000_i32 v262
  ![v263.toNat]
def k0_cond11 (i : grid0.Coords) (k0_t4 : Fin (k0_t4_loop i).trips) : BitVec 1 :=
  let c0_i32_10 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c1_i32_57 : BitVec 32 := 1#32
  let v243 : BitVec 32 := Scalar.andi arg18 c1_i32_57
  let c1_i32_58 : BitVec 32 := 1#32
  let v244 : BitVec 1 := Scalar.cmpi .eq v243 c1_i32_58
  let v245 : BitVec 32 := Scalar.extui v244
  let c0_i32_59 : BitVec 32 := 0#32
  let v246 : BitVec 1 := Scalar.cmpi .ne v245 c0_i32_59
  v246

def k0_cond12 (i : grid0.Coords) (k0_t4 : Fin (k0_t4_loop i).trips) : BitVec 1 :=
  let c0_i32_10 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c1_i32_63 : BitVec 32 := 1#32
  let v251 : BitVec 32 := Scalar.addi arg18 c1_i32_63
  let v252 : BitVec 1 := Scalar.cmpi .slt v251 v21
  let v253 : BitVec 32 := Scalar.extui v252
  let c0_i32_64 : BitVec 32 := 0#32
  let v254 : BitVec 1 := Scalar.cmpi .ne v253 c0_i32_64
  v254

def k0_off20 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1250_i32 : BitVec 32 := 1250#32
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c1_i32_72 : BitVec 32 := 1#32
  let v266 : BitVec 32 := Scalar.addi arg18 c1_i32_72
  let c32_i32_73 : BitVec 32 := 32#32
  let v267 : BitVec 32 := Scalar.muli v266 c32_i32_73
  let v268 : BitVec 32 := Scalar.addi v1 v267
  let c3840_i32 : BitVec 32 := 3840#32
  let v269 : BitVec 32 := Scalar.muli v268 c3840_i32
  ![v269.toNat]
@[reducible] def k0_t6_loop : Scf.Loop 32 :=
  let c0_i32_68 : BitVec 32 := 0#32
  let c80_i32 : BitVec 32 := 80#32
  let v258 : BitVec 32 := Scalar.addi c0_i32_68 c80_i32
  let c1_i32_69 : BitVec 32 := 1#32
  ⟨c0_i32_68, v258, c1_i32_69⟩
def k0_off21 (k0_t6 : Fin k0_t6_loop.trips) : Fin 1 → Nat :=
  let c0_i32_68 : BitVec 32 := 0#32
  let c1_i32_69 : BitVec 32 := 1#32
  let arg19 : BitVec 32 := Scf.iv c0_i32_68 c1_i32_69 k0_t6
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v271 : Index := Scalar.indexCast v270
  ![v271.toNat]
def k0_off22 (k0_t6 : Fin k0_t6_loop.trips) (c128_i32 : BitVec 32) : Fin 1 → Nat :=
  let c0_i32_68 : BitVec 32 := 0#32
  let c1_i32_69 : BitVec 32 := 1#32
  let arg19 : BitVec 32 := Scf.iv c0_i32_68 c1_i32_69 k0_t6
  let c3_i32 : BitVec 32 := 3#32
  let v266 : BitVec 32 := Scalar.shrsi arg19 c3_i32
  let c384_i32 : BitVec 32 := 384#32
  let v267 : BitVec 32 := Scalar.muli v266 c384_i32
  let c7_i32 : BitVec 32 := 7#32
  let v268 : BitVec 32 := Scalar.andi arg19 c7_i32
  let c4_i32 : BitVec 32 := 4#32
  let v269 : BitVec 32 := Scalar.shli v268 c4_i32
  let v270 : BitVec 32 := Scalar.addi v267 v269
  let v273 : BitVec 32 := Scalar.addi v270 c128_i32
  let v274 : Index := Scalar.indexCast v273
  ![v274.toNat]
def k0_off23 (k0_t6 : Fin k0_t6_loop.trips) (c0_i32_75 : BitVec 32) : Fin 1 → Nat :=
  let c0_i32_68 : BitVec 32 := 0#32
  let c1_i32_69 : BitVec 32 := 1#32
  let arg19 : BitVec 32 := Scf.iv c0_i32_68 c1_i32_69 k0_t6
  let c3_i32_72 : BitVec 32 := 3#32
  let v365 : BitVec 32 := Scalar.shrsi arg19 c3_i32_72
  let c10_i32 : BitVec 32 := 10#32
  let v366 : BitVec 32 := Scalar.shli v365 c10_i32
  let c7_i32_73 : BitVec 32 := 7#32
  let v367 : BitVec 32 := Scalar.andi arg19 c7_i32_73
  let c4_i32_74 : BitVec 32 := 4#32
  let v368 : BitVec 32 := Scalar.shli v367 c4_i32_74
  let v369 : BitVec 32 := Scalar.addi v366 v368
  let v370 : BitVec 32 := Scalar.addi v369 c0_i32_75
  let v371 : Index := Scalar.indexCast v370
  ![v371.toNat]
def k0_off24 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1250_i32 : BitVec 32 := 1250#32
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c32_i32_60 : BitVec 32 := 32#32
  let v247 : BitVec 32 := Scalar.muli arg18 c32_i32_60
  let v248 : BitVec 32 := Scalar.addi v1 v247
  let c10240_i32 : BitVec 32 := 10240#32
  let v259 : BitVec 32 := Scalar.muli v248 c10240_i32
  ![v259.toNat]
def k0_off25 (i : grid0.Coords) (k0_t4 : Fin (k0_t4_loop i).trips) : Fin 1 → Nat :=
  let c12800000_i32 : BitVec 32 := 12800000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c1250_i32 : BitVec 32 := 1250#32
  let v2 : BitVec 32 := Scalar.subi c1250_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v170 : BitVec 32 := Scalar.subi v21 c0_i32_10
  let c1_i32_11 : BitVec 32 := 1#32
  let v172 : BitVec 32 := Scalar.divsi v170 c1_i32_11
  let v173 : BitVec 32 := Scalar.muli v172 c1_i32_11
  let v174 : BitVec 32 := Scalar.addi c0_i32_10 v173
  let c1_i32_13 : BitVec 32 := 1#32
  let arg18 : BitVec 32 := Scf.iv v174 c1_i32_13 k0_t4
  let c32_i32_60 : BitVec 32 := 32#32
  let v247 : BitVec 32 := Scalar.muli arg18 c32_i32_60
  let v248 : BitVec 32 := Scalar.addi v1 v247
  let c10240_i32_71 : BitVec 32 := 10240#32
  let v262 : BitVec 32 := Scalar.muli v248 c10240_i32_71
  let v263 : BitVec 32 := Scalar.addi c12800000_i32 v262
  ![v263.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1600000x3 : Shape := ⟨2, ![1600000, 3]⟩
abbrev S28 : Shape := ⟨1, ![28]⟩
abbrev S3x28 : Shape := ⟨2, ![3, 28]⟩
abbrev S16 : Shape := ⟨1, ![16]⟩
abbrev S1600000x3x1 : Shape := ⟨3, ![1600000, 3, 1]⟩
abbrev S1x3x28 : Shape := ⟨3, ![1, 3, 28]⟩
abbrev S1600000x3x28 : Shape := ⟨3, ![1600000, 3, 28]⟩
abbrev S1600000x1x28 : Shape := ⟨3, ![1600000, 1, 28]⟩
abbrev S1600000x28 : Shape := ⟨2, ![1600000, 28]⟩
abbrev S1x28 : Shape := ⟨2, ![1, 28]⟩
abbrev S28x1600000 : Shape := ⟨2, ![28, 1600000]⟩
abbrev S_ : Shape := ⟨0, ![]⟩
abbrev S16x1600000 : Shape := ⟨2, ![16, 1600000]⟩
abbrev S28x1 : Shape := ⟨2, ![28, 1]⟩
abbrev S1600000x16 : Shape := ⟨2, ![1600000, 16]⟩
abbrev S1x16 : Shape := ⟨2, ![1, 16]⟩

abbrev nBuf : Space → Nat
  | .hbm => 31
  | .vmem => 0
  | .smem => 0
  | _ => 0

abbrev bufTy : (tb : Table) → Fin (tcTables nBuf tb) → BufTy
  | .hbm, ⟨0, _⟩ => ⟨S1600000x3, .f32⟩
  | .hbm, ⟨1, _⟩ => ⟨S28, .i32⟩
  | .hbm, ⟨2, _⟩ => ⟨S28, .f32⟩
  | .hbm, ⟨3, _⟩ => ⟨S3x28, .i32⟩
  | .hbm, ⟨4, _⟩ => ⟨S16, .f32⟩
  | .hbm, ⟨5, _⟩ => ⟨S1600000x3x1, .f32⟩
  | .hbm, ⟨6, _⟩ => ⟨S1x3x28, .i32⟩
  | .hbm, ⟨7, _⟩ => ⟨S1x3x28, .f32⟩
  | .hbm, ⟨8, _⟩ => ⟨S1600000x3x28, .f32⟩
  | .hbm, ⟨9, _⟩ => ⟨S1600000x3x28, .f32⟩
  | .hbm, ⟨10, _⟩ => ⟨S1600000x3x28, .f32⟩
  | .hbm, ⟨11, _⟩ => ⟨S1600000x1x28, .f32⟩
  | .hbm, ⟨12, _⟩ => ⟨S1600000x28, .f32⟩
  | .hbm, ⟨13, _⟩ => ⟨S1600000x1x28, .f32⟩
  | .hbm, ⟨14, _⟩ => ⟨S1600000x28, .f32⟩
  | .hbm, ⟨15, _⟩ => ⟨S1600000x28, .f32⟩
  | .hbm, ⟨16, _⟩ => ⟨S1600000x1x28, .f32⟩
  | .hbm, ⟨17, _⟩ => ⟨S1600000x28, .f32⟩
  | .hbm, ⟨18, _⟩ => ⟨S1600000x28, .f32⟩
  | .hbm, ⟨19, _⟩ => ⟨S1x28, .f32⟩
  | .hbm, ⟨20, _⟩ => ⟨S1600000x28, .f32⟩
  | .hbm, ⟨21, _⟩ => ⟨S1600000x28, .f32⟩
  | .hbm, ⟨22, _⟩ => ⟨S28x1600000, .f32⟩
  | .hbm, ⟨23, _⟩ => ⟨S_, .f32⟩
  | .hbm, ⟨24, _⟩ => ⟨S16x1600000, .f32⟩
  | .hbm, ⟨25, _⟩ => ⟨S28x1, .i32⟩
  | .hbm, ⟨26, _⟩ => ⟨S16x1600000, .f32⟩
  | .hbm, ⟨27, _⟩ => ⟨S1600000x16, .f32⟩
  | .hbm, ⟨28, _⟩ => ⟨S1x16, .f32⟩
  | .hbm, ⟨29, _⟩ => ⟨S1600000x16, .f32⟩
  | .hbm, ⟨30, _⟩ => ⟨S1600000x16, .f32⟩
  | _, _ => ⟨S1600000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Ends.lean ====
/-
  What the host finds at the end: its arguments as they were, and the result array, which is the call's flat result cut
  into halves, blocks of 128 points and rows, and turned so that a row holds one point.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.Kernel
public import proofs.«01_k».proof.Proof.Gen.Kernel.Skeleton
public import proofs.«01_k».proof.Proof.Inner
public import Idealize.ShloMosaic.Lib.Batch
public import Idealize.ShloMosaic.Lib.Ring
public import proofs.«01_k».proof.Proof.Outer
public import proofs.«01_k».proof.Proof.Loop
public import proofs.«01_k».proof.Proof.Tile
public import proofs.«01_k».proof.Proof.Task
public import proofs.«01_k».proof.Proof.Share
public import proofs.«01_k».proof.Proof.Launch

@[expose] public section

set_option maxRecDepth 16384

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.StableHlo (held held_sub_split wp_seq after seq launchContents tcRefs)

section Ends

variable [FloatOps F] (m : (ℓ : Loc nD τ sig) → Buf (Elt F) ℓ) (ρ : Dev nD → PrngReg)

/-- An array that no operation of the host's writes, and that is not the call's result, ends as it began. -/
theorem kept (d : Dev nD) (b : Ref sig .tc) (h : b ∈ [main_arg0, main_arg1, main_arg2, main_arg3, main_arg4]) :
    V3 m d (Proc.devRef .tc b) = m ((d.tc : Thread nD τ).loc b) := by
  simp only [List.mem_cons, List.not_mem_nil, or_false] at h
  rcases h with rfl | rfl | rfl | rfl | rfl
  all_goals
    unfold V3 opsOut; after_results
    unfold V2; rw [Function.update_of_ne (by decide)]
    unfold V1 opsIn; after_results <;> rfl

theorem x_contents (d : Dev nD) : X1 m d = shapeCast S4800000 (transpose S12500x3x128 [1, 0, 2]
      (shapeCast S3x12500x128 (transpose S3x1600000 [1, 0] (m ((d.tc : Thread nD τ).loc main_arg0)) transposes_S1600000x3_S3x1600000_1_0)
        shapeCasts_S3x1600000_S3x12500x128) transposes_S3x12500x128_S12500x3x128_1_0_2) shapeCasts_S12500x3x128_S4800000 := by
  unfold X1 V1 opsIn; after_results <;> rfl

theorem clm_contents (d : Dev nD) : C1 m d = concatenate S32 0 [⟨S28, m ((d.tc : Thread nD τ).loc main_arg2)⟩,
      ⟨S4, broadcastInDim S4 ![] bcast_S_S4 (constant S_ .f32 0x00000000#32)⟩] concatenates_S28_S4_S32_d0 := by
  unfold C1 V1 opsIn; after_results <;> rfl

theorem ns_contents (d : Dev nD) : N1 m d = m ((d.tc : Thread nD τ).loc main_arg4) := by
  unfold N1 V1 opsIn; after_results <;> rfl

theorem result_contents (d : Dev nD) : V3 m d (Proc.devRef .tc main_v9) = shapeCast S1600000x16
      (transpose S12500x128x2x8 [1, 3, 0, 2] (shapeCast S2x12500x8x128 (R1 m d) shapeCasts_S25600000_S2x12500x8x128)
        transposes_S2x12500x8x128_S12500x128x2x8_1_3_0_2) shapeCasts_S12500x128x2x8_S1600000x16 := by
  have e : V2 m d (Proc.devRef .tc main_v6) = R1 m d := Function.update_self _ _ _
  unfold V3 opsOut; after_results
  rw [e]; rfl

variable [∀ e, Nonempty (Elt F e)]

/-- Every weakly fair run ends with the result array at its last contents, the arguments unchanged and the counters at zero. -/
theorem ends : θ_run (Cert.Kernel.defs (F := F)) (Cert.Kernel.threads (F := F)) ⟨m, fun _ => 0, ρ⟩
    fun r => (∀ c : Dev nD, r.2.mem ((c.tc : Thread nD τ).loc main_v9) = V3 m c (Proc.devRef .tc main_v9)
        ∧ ∀ b ∈ [main_arg0, main_arg1, main_arg2, main_arg3, main_arg4], r.2.mem ((c.tc : Thread nD τ).loc b) = m ((c.tc : Thread nD τ).loc b))
      ∧ r.2.sem = fun _ => 0 :=
  (θ_run _ _ _).mono (fun r h => ⟨fun c => ⟨h.1 c (Proc.devRef .tc main_v9) (by decide), fun b hb =>
    (h.1 c (Proc.devRef .tc b) (by
      simp only [List.mem_cons, List.not_mem_nil, or_false] at hb
      rcases hb with rfl | rfl | rfl | rfl | rfl <;> decide)).trans (kept m c b hb)⟩, h.2⟩) (run_main m ρ)

end Ends

end Cert.Proof.Kernel

end
-- ==== Proof.Ref.lean ====
/-
  The reference read at one point and one slot: the sum, over the monomials whose destination is the slot, of the
  monomial times its coefficient, times the slot's normalisation.
-/
module

public import proofs.«01_k».proof.Defs
public import proofs.«01_k».proof.Proof.Gen.ReferenceIdeal
public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.Proof.Ref

open Cert.ReferenceIdeal Cert.ReferenceIdeal.Gen
open Idealize.ShloMosaic

/-- The coordinates to the powers of the table. -/
def powers (A0 : FVec Ideal S1600000x3 .f32) (A3 : IVec S3x28 32) : FVec Ideal S1600000x3x28 .f32 :=
  Host.powf (broadcastInDim S1600000x3x28 ![0, 1, 2] bcast_S1600000x3x1_S1600000x3x28_0_1_2 (broadcastInDim S1600000x3x1 ![0, 1] bcast_S1600000x3_S1600000x3x1_0_1 A0))
    (broadcastInDim S1600000x3x28 ![0, 1, 2] bcast_S1x3x28_S1600000x3x28_0_1_2 (sitofp .f32 (broadcastInDim S1x3x28 ![1, 2] bcast_S3x28_S1x3x28_1_2 A3)))

/-- The monomials times their coefficients. -/
def weighted (A0 : FVec Ideal S1600000x3 .f32) (A2 : FVec Ideal S28 .f32) (A3 : IVec S3x28 32) : FVec Ideal S1600000x28 .f32 :=
  mulf (mulf (mulf
      (shapeCast S1600000x28 (extractStridedSlice S1600000x1x28 ![0, 0, 0] (powers A0 A3) slices_S1600000x3x28_S1600000x1x28_0_0_0) shapeCasts_S1600000x1x28_S1600000x28)
      (shapeCast S1600000x28 (extractStridedSlice S1600000x1x28 ![0, 1, 0] (powers A0 A3) slices_S1600000x3x28_S1600000x1x28_0_1_0) shapeCasts_S1600000x1x28_S1600000x28))
      (shapeCast S1600000x28 (extractStridedSlice S1600000x1x28 ![0, 2, 0] (powers A0 A3) slices_S1600000x3x28_S1600000x1x28_0_2_0) shapeCasts_S1600000x1x28_S1600000x28))
    (broadcastInDim S1600000x28 ![0, 1] bcast_S1x28_S1600000x28_0_1 (broadcastInDim S1x28 ![1] bcast_S28_S1x28_1 A2))

/-- The sums per slot. -/
def sums (A0 : FVec Ideal S1600000x3 .f32) (A1 : IVec S28 32) (A2 : FVec Ideal S28 .f32) (A3 : IVec S3x28 32) : FVec Ideal S16x1600000 .f32 :=
  Host.scatterAdd scatter_S16x1600000_S28x1_S28x1600000_1_0_0_1 (broadcastInDim S16x1600000 ![] bcast_S_S16x1600000 (constant S_ .f32 0x00000000#32))
    (broadcastInDim S28x1 ![0] bcast_S28_S28x1_0 A1) (transpose S28x1600000 [1, 0] (weighted A0 A2 A3) transposes_S1600000x28_S28x1600000_1_0)

/-- The reference's result. -/
def out (A0 : FVec Ideal S1600000x3 .f32) (A1 : IVec S28 32) (A2 : FVec Ideal S28 .f32) (A3 : IVec S3x28 32) (A4 : FVec Ideal S16 .f32) :
    FVec Ideal S1600000x16 .f32 :=
  mulf (transpose S1600000x16 [1, 0] (sums A0 A1 A2 A3) transposes_S16x1600000_S1600000x16_1_0)
    (broadcastInDim S1600000x16 ![0, 1] bcast_S1x16_S1600000x16_0_1 (broadcastInDim S1x16 ![1] bcast_S16_S1x16_1 A4))

/-- Monomial `t` of point `p` times its coefficient. -/
def term (A0 : FVec Ideal S1600000x3 .f32) (A2 : FVec Ideal S28 .f32) (A3 : IVec S3x28 32) (p : Fin 1600000) (t : Fin 28) : EReal :=
  Ideal.pow (A0 (ix2 p 0)) (((A3 (ix2 0 t)).toInt : ℝ) : EReal) * Ideal.pow (A0 (ix2 p 1)) (((A3 (ix2 1 t)).toInt : ℝ) : EReal)
    * Ideal.pow (A0 (ix2 p 2)) (((A3 (ix2 2 t)).toInt : ℝ) : EReal) * A2 (ix1 t)

theorem weighted_at (A0 : FVec Ideal S1600000x3 .f32) (A2 : FVec Ideal S28 .f32) (A3 : IVec S3x28 32) (p : Fin 1600000) (t : Fin 28) :
    weighted A0 A2 A3 (ix2 p t) = term A0 A2 A3 p t := by
  pointwise [weighted, powers, term]
  rfl

/-- Update `(t, q)` lands at slot `s` of point `p` exactly when its index is `s` and `q` is `p`. -/
theorem lands (I : IVec S28x1 32) (t : Fin 28) (q : Fin 1600000) (s : Fin 16) (p : Fin 1600000) :
    scatter_S16x1600000_S28x1_S28x1600000_1_0_0_1.resultIdx? (ix2 t q) I = some (ix2 s p) ↔ (I (ix2 t 0)).toInt = (s.val : Int) ∧ q = p := by
  rw [Routing.resultIdx?_eq_some]
  have h0 : scatter_S16x1600000_S28x1_S28x1600000_1_0_0_1.start (ix2 t q) I 0 = (I (ix2 t 0)).toInt := by
    show (I _).toInt = _
    refine congrArg (fun j => (I j).toInt) (funext fun b => ?_)
    match b with
    | ⟨0, _⟩ => rfl
    | ⟨1, _⟩ => rfl
  have h1 : scatter_S16x1600000_S28x1_S28x1600000_1_0_0_1.start (ix2 t q) I 1 = 0 := rfl
  have w0 : scatter_S16x1600000_S28x1_S28x1600000_1_0_0_1.window (ix2 t q) 0 = 0 := rfl
  have w1 : scatter_S16x1600000_S28x1_S28x1600000_1_0_0_1.window (ix2 t q) 1 = q.val := rfl
  rw [Fin.forall_fin_two, h0, h1, w0, w1, Fin.ext_iff]
  show (I (ix2 t 0)).toInt + ((0 : ℕ) : Int) = (s.val : Int) ∧ (0 : Int) + (q.val : Int) = (p.val : Int) ↔ _
  omega

theorem out_at (A0 : FVec Ideal S1600000x3 .f32) (A1 : IVec S28 32) (A2 : FVec Ideal S28 .f32) (A3 : IVec S3x28 32) (A4 : FVec Ideal S16 .f32)
    (p : Fin 1600000) (s : Fin 16) :
    out A0 A1 A2 A3 A4 (ix2 p s) = (∑ t : Fin 28, if (A1 (ix1 t)).toInt = (s.val : Int) then term A0 A2 A3 p t else 0) * A4 (ix1 s) := by
  have h : sums A0 A1 A2 A3 (ix2 s p) = ∑ t : Fin 28, if (A1 (ix1 t)).toInt = (s.val : Int) then term A0 A2 A3 p t else 0 := by
    unfold sums Host.scatterAdd
    rw [Ideal.hostScatterAdd_def]
    unfold Ideal.hostScatterAdd
    rw [Finset.sum_filter, sum_idx2]
    have e : (broadcastInDim S16x1600000 ![] bcast_S_S16x1600000 (constant (F := Ideal) S_ .f32 0x00000000#32)) (ix2 s p) = (0 : EReal) := by pointwise
    rw [e, zero_add]
    refine Finset.sum_congr rfl fun t _ => ?_
    simp only [lands]
    have eI : (broadcastInDim S28x1 ![0] bcast_S28_S28x1_0 A1) (ix2 t 0) = A1 (ix1 t) := by pointwise
    rw [eI]
    have eT : ∀ q : Fin 1600000, transpose S28x1600000 [1, 0] (weighted A0 A2 A3) transposes_S1600000x28_S28x1600000_1_0 (ix2 t q) = term A0 A2 A3 q t := by
      intro q
      rw [← weighted_at]
      pointwise
    simp only [eT]
    by_cases hs : (A1 (ix1 t)).toInt = (s.val : Int)
    · simp only [hs, true_and, if_true]
      rw [Finset.sum_ite_eq' Finset.univ p, if_pos (Finset.mem_univ _)]
    · simp only [hs, false_and, if_false, Finset.sum_const_zero]
  rw [← h]
  pointwise [out]

end Cert.Proof.Ref

end
-- ==== Proof.IdealInner.lean ====
/-
  The kernel's inner loop: one group of sixteen points. A trip reads the three coordinates of sixteen points out of
  the input buffer, forms the sixteen values of each point, and stores them into the two output buffers, eight rows
  of sixteen words each. This module names the value of one point (`lane`), says which word of an output buffer each
  group owns, and runs the loop once for the even buffers and once for the odd ones.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The handshakes' rounds library, the left factor; the transfers' counters are found by instance in the right. -/
abbrev EH : Emb UH (MT nD τ sig (HIx 1) (Elt F) ℕ UU ℕ) := embL

/-! ## The buffers a vector subcore works in -/

/-- The launch's thread on core `i 0`, subcore `i 1`. -/
abbrev thr (d : Dev nD) (i : grid0.Coords) : Thread nD τ := V d ((i 0).castLE hcore0) ((i 1).castLE hsub0)

local notation "xM" => (Memref.whole Cert.KernelIdeal.main_v3_scv : Memref Cert.KernelIdeal.sig Kind.scVector Space.hbm Cert.KernelIdeal.S4800000 EltTy.f32)
local notation "clmM" => (Memref.whole Cert.KernelIdeal.main_v5_scv : Memref Cert.KernelIdeal.sig Kind.scVector Space.hbm Cert.KernelIdeal.S32 EltTy.f32)
local notation "nsM" => (Memref.whole Cert.KernelIdeal.main_arg4_scv : Memref Cert.KernelIdeal.sig Kind.scVector Space.hbm Cert.KernelIdeal.S16 EltTy.f32)
local notation "oM" => (Memref.whole Cert.KernelIdeal.main_v6_scv : Memref Cert.KernelIdeal.sig Kind.scVector Space.hbm Cert.KernelIdeal.S25600000 EltTy.f32)
local notation "x0M" => (Memref.whole Cert.KernelIdeal.cc0_scratch0 : Memref Cert.KernelIdeal.sig Kind.scVector Space.vmem Cert.KernelIdeal.S3840 EltTy.f32)
local notation "x1M" => (Memref.whole Cert.KernelIdeal.cc0_scratch1 : Memref Cert.KernelIdeal.sig Kind.scVector Space.vmem Cert.KernelIdeal.S3840 EltTy.f32)
local notation "a0M" => (Memref.whole Cert.KernelIdeal.cc0_scratch2 : Memref Cert.KernelIdeal.sig Kind.scVector Space.vmem Cert.KernelIdeal.S10240 EltTy.f32)
local notation "b0M" => (Memref.whole Cert.KernelIdeal.cc0_scratch3 : Memref Cert.KernelIdeal.sig Kind.scVector Space.vmem Cert.KernelIdeal.S10240 EltTy.f32)
local notation "a1M" => (Memref.whole Cert.KernelIdeal.cc0_scratch4 : Memref Cert.KernelIdeal.sig Kind.scVector Space.vmem Cert.KernelIdeal.S10240 EltTy.f32)
local notation "b1M" => (Memref.whole Cert.KernelIdeal.cc0_scratch5 : Memref Cert.KernelIdeal.sig Kind.scVector Space.vmem Cert.KernelIdeal.S10240 EltTy.f32)
local notation "cM" => (Memref.whole Cert.KernelIdeal.cc0_scratch6 : Memref Cert.KernelIdeal.sig Kind.scVector Space.vmem Cert.KernelIdeal.S32 EltTy.f32)
local notation "nM" => (Memref.whole Cert.KernelIdeal.cc0_scratch7 : Memref Cert.KernelIdeal.sig Kind.scVector Space.vmem Cert.KernelIdeal.S16 EltTy.f32)

/-! ## The offsets of a group -/

instance (k : Fin k0_t2_loop.trips) : ClosedOff (k0_off3 k) := ⟨![k.val / 8 * 384 + k.val % 8 * 16], by revert k; decide +kernel⟩
instance (k : Fin k0_t2_loop.trips) : ClosedOff (k0_off4 k 128#32) := ⟨![k.val / 8 * 384 + k.val % 8 * 16 + 128], by revert k; decide +kernel⟩
instance (k : Fin k0_t2_loop.trips) : ClosedOff (k0_off4 k 256#32) := ⟨![k.val / 8 * 384 + k.val % 8 * 16 + 256], by revert k; decide +kernel⟩
instance (k : Fin k0_t2_loop.trips) : ClosedOff (k0_off5 k 0#32) := ⟨![k.val / 8 * 1024 + k.val % 8 * 16], by revert k; decide +kernel⟩
instance (k : Fin k0_t2_loop.trips) : ClosedOff (k0_off5 k 128#32) := ⟨![k.val / 8 * 1024 + k.val % 8 * 16 + 128], by revert k; decide +kernel⟩
instance (k : Fin k0_t2_loop.trips) : ClosedOff (k0_off5 k 256#32) := ⟨![k.val / 8 * 1024 + k.val % 8 * 16 + 256], by revert k; decide +kernel⟩
instance (k : Fin k0_t2_loop.trips) : ClosedOff (k0_off5 k 384#32) := ⟨![k.val / 8 * 1024 + k.val % 8 * 16 + 384], by revert k; decide +kernel⟩
instance (k : Fin k0_t2_loop.trips) : ClosedOff (k0_off5 k 512#32) := ⟨![k.val / 8 * 1024 + k.val % 8 * 16 + 512], by revert k; decide +kernel⟩
instance (k : Fin k0_t2_loop.trips) : ClosedOff (k0_off5 k 640#32) := ⟨![k.val / 8 * 1024 + k.val % 8 * 16 + 640], by revert k; decide +kernel⟩
instance (k : Fin k0_t2_loop.trips) : ClosedOff (k0_off5 k 768#32) := ⟨![k.val / 8 * 1024 + k.val % 8 * 16 + 768], by revert k; decide +kernel⟩
instance (k : Fin k0_t2_loop.trips) : ClosedOff (k0_off5 k 896#32) := ⟨![k.val / 8 * 1024 + k.val % 8 * 16 + 896], by revert k; decide +kernel⟩
instance (k : Fin k0_t3_loop.trips) : ClosedOff (k0_off9 k) := ⟨![k.val / 8 * 384 + k.val % 8 * 16], by revert k; decide +kernel⟩
instance (k : Fin k0_t3_loop.trips) : ClosedOff (k0_off10 k 128#32) := ⟨![k.val / 8 * 384 + k.val % 8 * 16 + 128], by revert k; decide +kernel⟩
instance (k : Fin k0_t3_loop.trips) : ClosedOff (k0_off10 k 256#32) := ⟨![k.val / 8 * 384 + k.val % 8 * 16 + 256], by revert k; decide +kernel⟩
instance (k : Fin k0_t3_loop.trips) : ClosedOff (k0_off11 k 0#32) := ⟨![k.val / 8 * 1024 + k.val % 8 * 16], by revert k; decide +kernel⟩
instance (k : Fin k0_t3_loop.trips) : ClosedOff (k0_off11 k 128#32) := ⟨![k.val / 8 * 1024 + k.val % 8 * 16 + 128], by revert k; decide +kernel⟩
instance (k : Fin k0_t3_loop.trips) : ClosedOff (k0_off11 k 256#32) := ⟨![k.val / 8 * 1024 + k.val % 8 * 16 + 256], by revert k; decide +kernel⟩
instance (k : Fin k0_t3_loop.trips) : ClosedOff (k0_off11 k 384#32) := ⟨![k.val / 8 * 1024 + k.val % 8 * 16 + 384], by revert k; decide +kernel⟩
instance (k : Fin k0_t3_loop.trips) : ClosedOff (k0_off11 k 512#32) := ⟨![k.val / 8 * 1024 + k.val % 8 * 16 + 512], by revert k; decide +kernel⟩
instance (k : Fin k0_t3_loop.trips) : ClosedOff (k0_off11 k 640#32) := ⟨![k.val / 8 * 1024 + k.val % 8 * 16 + 640], by revert k; decide +kernel⟩
instance (k : Fin k0_t3_loop.trips) : ClosedOff (k0_off11 k 768#32) := ⟨![k.val / 8 * 1024 + k.val % 8 * 16 + 768], by revert k; decide +kernel⟩
instance (k : Fin k0_t3_loop.trips) : ClosedOff (k0_off11 k 896#32) := ⟨![k.val / 8 * 1024 + k.val % 8 * 16 + 896], by revert k; decide +kernel⟩

/-! ## One point -/

/-- The sixteen values of the point `(x, y, z)` under the twenty-eight weights `w`, in the kernel's own order of
    operations: the terms of one slot added from the left. -/
def lane [FloatOps F] (w : Fin 28 → F .f32) (x y z : F .f32) : Fin 16 → F .f32 :=
  let m := FloatOps.mulf (F := F) (φ := .f32)
  let p := FloatOps.addf (F := F) (φ := .f32)
  let xx := m x x
  let zz := m z z
  let xy := m x y
  let xz := m x z
  let u := FloatOps.divf (F := F) (φ := .f32) (m y y) xx
  ![w 0, m (w 1) xy, m (w 2) z, m (w 3) x, m (w 4) (m x xy), m (w 5) (m xy z), p (p (m (w 6) zz) (m (w 8) u)) (w 7),
    m (w 9) xz,
    p (m (w 10) xx) (m (w 11) (m xy xy)), p (m (w 12) (m xx xy)) (m (w 13) (m xy (m xy xy))), m (w 14) (m (m x xy) z),
    p (p (m (w 15) (m (m xy z) z)) (m (w 16) xy)) (m (w 17) (m u xy)),
    p (p (m (w 18) (m zz z)) (m (w 19) z)) (m (w 20) (m u z)),
    p (p (m (w 21) (m xz z)) (m (w 22) x)) (m (w 23) (m u x)),
    p (m (w 24) (m xx z)) (m (w 25) (m (m xy xy) z)), p (m (w 26) (m x xx)) (m (w 27) (m x (m xy xy)))]

/-! ## The words of one group -/

/-- Index `n` of an array of `N` words. -/
def ix (N : ℕ) [NeZero N] (n : ℕ) : (⟨1, ![N]⟩ : Shape).Idx :=
  fun a => ⟨n % N, by
    have : a = 0 := Subsingleton.elim _ _
    subst this; exact Nat.mod_lt _ (NeZero.pos N)⟩

theorem ix_val (N : ℕ) [NeZero N] (n : ℕ) : (ix N n 0).val = n % N := rfl

theorem eq_ix {N : ℕ} [NeZero N] (y : (⟨1, ![N]⟩ : Shape).Idx) : y = ix N (y 0).val := by
  funext a
  have : a = 0 := Subsingleton.elim _ _
  subst this
  exact Fin.ext (Nat.mod_eq_of_lt (y 0).isLt).symm

theorem idx_ext {N : ℕ} {y y' : (⟨1, ![N]⟩ : Shape).Idx} (h : (y 0).val = (y' 0).val) : y = y' := by
  funext a
  have : a = 0 := Subsingleton.elim _ _
  subst this
  exact Fin.ext h

/-- The group of sixteen points that owns word `j` of an output buffer. -/
def grp (j : S10240.Idx) : ℕ := (j 0).val / 1024 * 8 + (j 0).val % 128 / 16

/-- Word `j` of the output buffer of half `h` for the block of points `f`. -/
def outAt [FloatOps F] (w : Fin 28 → F .f32) (f : S3840.Idx → F .f32) (h : Fin 2) (j : S10240.Idx) : F .f32 :=
  lane w (f (ix 3840 ((j 0).val / 1024 * 384 + (j 0).val % 128))) (f (ix 3840 ((j 0).val / 1024 * 384 + (j 0).val % 128 + 128)))
    (f (ix 3840 ((j 0).val / 1024 * 384 + (j 0).val % 128 + 256))) ⟨8 * h.val + (j 0).val / 128 % 8, by omega⟩

/-- The output buffer when the groups below `k` are done. -/
def upTo [FloatOps F] (k : ℕ) (G g : S10240.Idx → F .f32) (j : S10240.Idx) : F .f32 := if grp j < k then G j else g j

theorem upTo_zero [FloatOps F] (G g : S10240.Idx → F .f32) : upTo 0 G g = g := by
  funext j; simp [upTo]

theorem upTo_all [FloatOps F] (G g : S10240.Idx → F .f32) : upTo 80 G g = G := by
  funext j
  have h0 : (j 0).val < 10240 := (j 0).isLt
  have : grp j < 80 := by unfold grp; omega
  simp [upTo, this]

theorem outAt_row [FloatOps F] (w : Fin 28 → F .f32) (f : S3840.Idx → F .f32) (h : Fin 2) (j : S10240.Idx) {k r l : ℕ}
    (hl : l < 16) (hr : r < 8) (hj : (j 0).val = k / 8 * 1024 + k % 8 * 16 + 128 * r + l) :
    outAt w f h j = lane w (f (ix 3840 (k / 8 * 384 + k % 8 * 16 + l))) (f (ix 3840 (k / 8 * 384 + k % 8 * 16 + 128 + l)))
      (f (ix 3840 (k / 8 * 384 + k % 8 * 16 + 256 + l))) ⟨8 * h.val + r, by omega⟩ := by
  unfold outAt
  have e0 : (j 0).val / 1024 * 384 + (j 0).val % 128 = k / 8 * 384 + k % 8 * 16 + l := by omega
  have e1 : k / 8 * 384 + k % 8 * 16 + 128 + l = k / 8 * 384 + k % 8 * 16 + l + 128 := by omega
  have e2 : k / 8 * 384 + k % 8 * 16 + 256 + l = k / 8 * 384 + k % 8 * 16 + l + 256 := by omega
  have e3 : (j 0).val / 128 % 8 = r := by omega
  simp only [e0, e1, e2, e3]

/-- A group's eight stores: row `r` at its place, each row's payload the wanted words there. -/
theorem group_writes [FloatOps F] [∀ e, Nonempty (Elt F e)] {sig : RefSig} {κ : Kind} {sp : Space} (v : View sig κ sp S10240 .f32)
    (hv : ∀ i, ∃ y, v.emb y = i)
    (g g' : v.ty.Contents (Elt F)) (gr G : S10240.Idx → F .f32) (k : ℕ) {o0 o1 o2 o3 o4 o5 o6 o7 : Fin 1 → ℕ}
    {n0 n1 n2 n3 n4 n5 n6 n7} {P0 P1 P2 P3 P4 P5 P6 P7 : S16.Idx → F .f32}
    (hg : ∀ y, v.read (Elt F) g y = upTo k G gr y) (hg' : ∀ y, v.read (Elt F) g' y = upTo (k + 1) G gr y)
    (h0 : o0 = ![k / 8 * 1024 + k % 8 * 16 + 128 * 0]) (h1 : o1 = ![k / 8 * 1024 + k % 8 * 16 + 128 * 1])
    (h2 : o2 = ![k / 8 * 1024 + k % 8 * 16 + 128 * 2]) (h3 : o3 = ![k / 8 * 1024 + k % 8 * 16 + 128 * 3])
    (h4 : o4 = ![k / 8 * 1024 + k % 8 * 16 + 128 * 4]) (h5 : o5 = ![k / 8 * 1024 + k % 8 * 16 + 128 * 5])
    (h6 : o6 = ![k / 8 * 1024 + k % 8 * 16 + 128 * 6]) (h7 : o7 = ![k / 8 * 1024 + k % 8 * 16 + 128 * 7])
    (hP : ∀ (x : S16.Idx) (r : Fin 8) (y : S10240.Idx), (y 0).val = k / 8 * 1024 + k % 8 * 16 + 128 * r.val + (x 0).val →
      (![P0, P1, P2, P3, P4, P5, P6, P7] : Fin 8 → S16.Idx → F .f32) r x = G y) :
    v.writes (Elt F) g [⟨Rect.unit (s := S10240) o7 S16.size n7, P7⟩, ⟨Rect.unit (s := S10240) o6 S16.size n6, P6⟩,
      ⟨Rect.unit (s := S10240) o5 S16.size n5, P5⟩, ⟨Rect.unit (s := S10240) o4 S16.size n4, P4⟩,
      ⟨Rect.unit (s := S10240) o3 S16.size n3, P3⟩, ⟨Rect.unit (s := S10240) o2 S16.size n2, P2⟩,
      ⟨Rect.unit (s := S10240) o1 S16.size n1, P1⟩, ⟨Rect.unit (s := S10240) o0 S16.size n0, P0⟩] = g' := by
  refine View.contents_ext (v := v) (fun y => ?_) (fun i hi => absurd (hv i) (by rintro ⟨y, hy⟩; exact hi y hy))
  rw [hg']
  -- a row's place, and membership in it
  have emb0 : ∀ (o : Fin 1 → ℕ) (n) (b : ℕ) (x : S16.Idx), o = ![b] → (((Rect.unit (s := S10240) o S16.size n).emb x) 0).val = b + (x 0).val := by
    intro o n b x ho; subst ho
    show b + 1 * (x 0).val = _
    omega
  have mem : ∀ (o : Fin 1 → ℕ) (n) (b : ℕ), o = ![b] → b ≤ (y 0).val → (y 0).val < b + 16 →
      y ∈ (Rect.unit (s := S10240) o S16.size n).set := by
    intro o n b ho hb hb'
    rw [← Rect.map_emb_univ]
    refine Finset.mem_map.mpr ⟨fun a => ⟨(y 0).val - b, ?_⟩, Finset.mem_univ _, ?_⟩
    · have : a = 0 := Subsingleton.elim _ _
      subst this; show (y 0).val - b < 16; omega
    · refine idx_ext ?_
      rw [emb0 o n b _ ho]
      show b + ((y 0).val - b) = _
      omega
  have hy0 : (y 0).val < 10240 := (y 0).isLt
  by_cases hy : grp y = k
  · have : upTo (k + 1) G gr y = G y := by unfold upTo; rw [if_pos (by omega)]
    rw [this]
    refine View.read_writes_apply_of_pieces (Val := Elt F) (e := .f32) _ _ G _ ?_ y ?_
    · have key : ∀ (r : Fin 8) (o : Fin 1 → ℕ) (n) (P : S16.Idx → F .f32), o = ![k / 8 * 1024 + k % 8 * 16 + 128 * r.val] →
          (![P0, P1, P2, P3, P4, P5, P6, P7] : Fin 8 → S16.Idx → F .f32) r = P →
          ∀ x : (Rect.unit (s := S10240) o S16.size n).shape.Idx, P x = G ((Rect.unit (s := S10240) o S16.size n).emb x) := by
        intro r o n P ho hr x
        rw [← hr]
        exact hP x r _ (emb0 o n _ x ho)
      simp only [List.forall_mem_cons]
      exact ⟨key 7 _ _ _ h7 rfl, key 6 _ _ _ h6 rfl, key 5 _ _ _ h5 rfl, key 4 _ _ _ h4 rfl, key 3 _ _ _ h3 rfl,
        key 2 _ _ _ h2 rfl, key 1 _ _ _ h1 rfl, key 0 _ _ _ h0 rfl, by simp⟩
    · simp only [List.mem_cons, List.not_mem_nil, or_false, exists_eq_or_imp, exists_eq_left]
      have hr : (y 0).val / 128 % 8 < 8 := by omega
      unfold grp at hy
      generalize hR : (y 0).val / 128 % 8 = R at hr
      have hb : ∀ R, (y 0).val / 128 % 8 = R → k / 8 * 1024 + k % 8 * 16 + 128 * R ≤ (y 0).val ∧ (y 0).val < k / 8 * 1024 + k % 8 * 16 + 128 * R + 16 := by
        intro R hR; omega
      have := hb R hR
      interval_cases R
      · exact .inr (.inr (.inr (.inr (.inr (.inr (.inr (mem _ _ _ h0 this.1 this.2)))))))
      · exact .inr (.inr (.inr (.inr (.inr (.inr (.inl (mem _ _ _ h1 this.1 this.2)))))))
      · exact .inr (.inr (.inr (.inr (.inr (.inl (mem _ _ _ h2 this.1 this.2))))))
      · exact .inr (.inr (.inr (.inr (.inl (mem _ _ _ h3 this.1 this.2)))))
      · exact .inr (.inr (.inr (.inl (mem _ _ _ h4 this.1 this.2))))
      · exact .inr (.inr (.inl (mem _ _ _ h5 this.1 this.2)))
      · exact .inr (.inl (mem _ _ _ h6 this.1 this.2))
      · exact .inl (mem _ _ _ h7 this.1 this.2)
  · have : upTo (k + 1) G gr y = upTo k G gr y := by
      unfold upTo
      by_cases h : grp y < k
      · rw [if_pos h, if_pos (by omega)]
      · rw [if_neg h, if_neg (by omega)]
    rw [this, ← hg]
    have nomem : ∀ (r : Fin 8) (o : Fin 1 → ℕ) (n), o = ![k / 8 * 1024 + k % 8 * 16 + 128 * r.val] →
        y ∉ (Rect.unit (s := S10240) o S16.size n).set := by
      intro r o n ho hm
      rw [← Rect.map_emb_univ] at hm
      obtain ⟨x, -, hx⟩ := Finset.mem_map.mp hm
      have e := emb0 o n _ x ho
      rw [hx] at e
      have hx0 : (x 0).val < 16 := (x 0).isLt
      have hr := r.isLt
      apply hy; unfold grp; omega
    refine View.read_writes_apply_of_forall_not_mem _ _ y _ ?_
    simp only [List.forall_mem_cons]
    exact ⟨nomem 7 _ _ h7, nomem 6 _ _ h6, nomem 5 _ _ h5, nomem 4 _ _ h4, nomem 3 _ _ h3,
        nomem 2 _ _ h2, nomem 1 _ _ h1, nomem 0 _ _ h0, by simp⟩

/-- A load of sixteen words of an input buffer, a lane at a time. -/
theorem readAt_lane {sig : RefSig} {κ : Kind} {sp : Space} (v : View sig κ sp S3840 .f32) (f : v.ty.Contents (Elt F))
    (fr : S3840.Idx → F .f32) (hf : ∀ y, v.read (Elt F) f y = fr y)
    {o : Fin 1 → ℕ} {n} (c : ℕ) (ho : o = ![c]) (hc : c + 16 ≤ 3840) (x : S16.Idx) :
    v.readAt (Elt F) (Rect.unit (s := S3840) o S16.size n).toLoadRect f x = fr (ix 3840 (c + (x 0).val)) := by
  subst ho
  rw [View.readAt_apply, hf]
  congr 1
  refine idx_ext ?_
  have hx0 : (x 0).val < 16 := (x 0).isLt
  rw [ix_val, Nat.mod_eq_of_lt (by omega)]
  show c + 1 * (x 0).val = _
  omega

section Trip

variable [FloatOps F] [∀ e, Nonempty (Elt F e)] (d : Dev nD) (i : grid0.Coords)
variable (v1 v21 : BitVec 32) (v26 v27 : Vec F S16 .f32)
variable (v32 v37 v42 v47 v52 v57 v62 v67 v72 v77 v82 v87 v92 v97 v102 v107 v112 v117 v122 v127 v132 v137 v142 v147 v152 v154 v156 : F .f32)

/-- The twenty-eight weights as the body binds them: the first twenty-five are bound before the loop, the last three
    are products it forms again. -/
abbrev wts : Fin 28 → F .f32 :=
  ![v32, v37, v42, v47, v52, v57, v62, v67, v72, v77, v82, v87, v92, v97, v102, v107, v112, v117, v122, v127, v132, v137, v142,
    v147, v152, k0_pay176 v154 v156, k0_pay177 v26 v27, k0_pay178 v26 v27]

local notation "WTS" => wts v26 v27 v32 v37 v42 v47 v52 v57 v62 v67 v72 v77 v82 v87 v92 v97 v102 v107 v112 v117 v122 v127 v132 v137 v142 v147 v152 v154 v156

/-- One trip of the even inner loop, over the launch's buffers. -/
abbrev evenBody (t1 : Fin (k0_t1_loop i).trips) (h2 : k0_cond2 i t1 = 1#1) :=
  k0_t2_body (F := F) i xM (Memref.isWhole_whole _) clmM (Memref.isWhole_whole _) nsM (Memref.isWhole_whole _) oM (Memref.isWhole_whole _)
    x0M (Memref.isWhole_whole _) x1M (Memref.isWhole_whole _) a0M (Memref.isWhole_whole _) b0M (Memref.isWhole_whole _)
    a1M (Memref.isWhole_whole _) b1M (Memref.isWhole_whole _) cM (Memref.isWhole_whole _) nM (Memref.isWhole_whole _)
    cc0_scratch8 cc0_scratch9 cc0_scratch10 cc0_scratch11 cc0_scoped0 cc0_scoped1 v1 v21 v26 v27 v32 v37 v42 v47 v52 v57 v62 v67 v72
    v77 v82 v87 v92 v97 v102 v107 v112 v117 v122 v127 v132 v137 v142 v147 v152 v154 v156 t1 h2

/-- A group of the even buffers: the trip does the words of group `k`. -/
theorem even_trip (t1 : Fin (k0_t1_loop i).trips) (h2 : k0_cond2 i t1 = 1#1) (k : Fin k0_t2_loop.trips)
    (f : Buf (Elt F) ((x0M).view.loc (thr d i))) (g8 : Buf (Elt F) ((a0M).view.loc (thr d i)))
    (g9 : Buf (Elt F) ((b0M).view.loc (thr d i))) :
    iprop(((x0M).view.loc (thr d i) ↦{fullShare} f) ∗ ((a0M).view.loc (thr d i) ↦{fullShare} upTo k.val (outAt WTS f 0) g8)
        ∗ ((b0M).view.loc (thr d i) ↦{fullShare} upTo k.val (outAt WTS f 1) g9))
      ⊢ wp (M := 𝕄) frame (wpE (defs₀ (F := F)) 𝒱₀ (thr d i) none) Set.univ
          (evenBody i v1 v21 v26 v27 v32 v37 v42 v47 v52 v57 v62 v67 v72 v77 v82 v87 v92 v97 v102 v107 v112 v117 v122 v127 v132 v137 v142 v147 v152 v154 v156 t1 h2 k ())
          fun _ => iprop(((x0M).view.loc (thr d i) ↦{fullShare} f)
            ∗ ((a0M).view.loc (thr d i) ↦{fullShare} upTo (k.val + 1) (outAt WTS f 0) g8)
            ∗ ((b0M).view.loc (thr d i) ↦{fullShare} upTo (k.val + 1) (outAt WTS f 1) g9)) := by
  have hk : k.val < 80 := lt_of_lt_of_le k.isLt k0_t2_abs.2.1
  have hX : ∀ (x : S16.Idx), _ := fun x => readAt_lane (F := F) (x0M).view f f (fun _ => rfl) (n := k0_off3_inb i t1 k h2) _
    (ClosedOff.eq (off := k0_off3 k)) (by omega) x
  have hY : ∀ (x : S16.Idx), _ := fun x => readAt_lane (F := F) (x0M).view f f (fun _ => rfl) (n := k0_off4_inb i t1 k h2 0) _
    (ClosedOff.eq (off := k0_off4 k 128#32)) (by omega) x
  have hZ : ∀ (x : S16.Idx), _ := fun x => readAt_lane (F := F) (x0M).view f f (fun _ => rfl) (n := k0_off4_inb i t1 k h2 1) _
    (ClosedOff.eq (off := k0_off4 k 256#32)) (by omega) x
  unfold evenBody k0_t2_body
  rw [k0_part1_eq_skeleton, k0_part2_eq_skeleton, k0_part3_eq_skeleton]
  unfold k0_part1_skel k0_part2_skel k0_part3_skel
  iintro ⟨Hx, Ha, Hb⟩
  sl_exec
  sl_step
  isplitl [Hx]; · iexact Hx
  isplitl [Ha]
  · ihave Ha := (Entails.of_eq (congrArg (fun z => ((a0M).view.loc (thr d i) ↦{fullShare} z : sProp 𝕄))
      (group_writes (F := F) (a0M).view (fun j => ⟨j, rfl⟩) _ (upTo (k.val + 1) (outAt WTS f 0) g8) g8 (outAt WTS f 0) k.val
        (fun _ => rfl) (fun _ => rfl) ClosedOff.eq ClosedOff.eq ClosedOff.eq ClosedOff.eq ClosedOff.eq ClosedOff.eq ClosedOff.eq ClosedOff.eq
        ?_))) $$ Ha
    · intro x r y hy
      rw [outAt_row WTS f 0 y (x 0).isLt r.isLt hy]
      erw [← hX x, ← hY x, ← hZ x]
      fin_cases r <;> rfl
    · iexact Ha
  · ihave Hb := (Entails.of_eq (congrArg (fun z => ((b0M).view.loc (thr d i) ↦{fullShare} z : sProp 𝕄))
      (group_writes (F := F) (b0M).view (fun j => ⟨j, rfl⟩) _ (upTo (k.val + 1) (outAt WTS f 1) g9) g9 (outAt WTS f 1) k.val
        (fun _ => rfl) (fun _ => rfl) ClosedOff.eq ClosedOff.eq ClosedOff.eq ClosedOff.eq ClosedOff.eq ClosedOff.eq ClosedOff.eq ClosedOff.eq
        ?_))) $$ Hb
    · intro x r y hy
      rw [outAt_row WTS f 1 y (x 0).isLt r.isLt hy]
      erw [← hX x, ← hY x, ← hZ x]
      fin_cases r <;> rfl
    · iexact Hb

/-- One trip of the odd inner loop, over the launch's buffers. -/
abbrev oddBody (t1 : Fin (k0_t1_loop i).trips) (h5 : k0_cond5 i t1 = 1#1) :=
  k0_t3_body (F := F) i xM (Memref.isWhole_whole _) clmM (Memref.isWhole_whole _) nsM (Memref.isWhole_whole _) oM (Memref.isWhole_whole _)
    x0M (Memref.isWhole_whole _) x1M (Memref.isWhole_whole _) a0M (Memref.isWhole_whole _) b0M (Memref.isWhole_whole _)
    a1M (Memref.isWhole_whole _) b1M (Memref.isWhole_whole _) cM (Memref.isWhole_whole _) nM (Memref.isWhole_whole _)
    cc0_scratch8 cc0_scratch9 cc0_scratch10 cc0_scratch11 cc0_scoped0 cc0_scoped1 v1 v21 v26 v27 v32 v37 v42 v47 v52 v57 v62 v67 v72
    v77 v82 v87 v92 v97 v102 v107 v112 v117 v122 v127 v132 v137 v142 v147 v152 v154 v156 t1 h5

/-- A group of the odd buffers: the trip does the words of group `k`. -/
theorem odd_trip (t1 : Fin (k0_t1_loop i).trips) (h5 : k0_cond5 i t1 = 1#1) (k : Fin k0_t3_loop.trips)
    (f : Buf (Elt F) ((x1M).view.loc (thr d i))) (g8 : Buf (Elt F) ((a1M).view.loc (thr d i)))
    (g9 : Buf (Elt F) ((b1M).view.loc (thr d i))) :
    iprop(((x1M).view.loc (thr d i) ↦{fullShare} f) ∗ ((a1M).view.loc (thr d i) ↦{fullShare} upTo k.val (outAt WTS f 0) g8)
        ∗ ((b1M).view.loc (thr d i) ↦{fullShare} upTo k.val (outAt WTS f 1) g9))
      ⊢ wp (M := 𝕄) frame (wpE (defs₀ (F := F)) 𝒱₀ (thr d i) none) Set.univ
          (oddBody i v1 v21 v26 v27 v32 v37 v42 v47 v52 v57 v62 v67 v72 v77 v82 v87 v92 v97 v102 v107 v112 v117 v122 v127 v132 v137 v142 v147 v152 v154 v156 t1 h5 k ())
          fun _ => iprop(((x1M).view.loc (thr d i) ↦{fullShare} f)
            ∗ ((a1M).view.loc (thr d i) ↦{fullShare} upTo (k.val + 1) (outAt WTS f 0) g8)
            ∗ ((b1M).view.loc (thr d i) ↦{fullShare} upTo (k.val + 1) (outAt WTS f 1) g9)) := by
  have hk : k.val < 80 := lt_of_lt_of_le k.isLt k0_t3_abs.2.1
  have hX : ∀ (x : S16.Idx), _ := fun x => readAt_lane (F := F) (x1M).view f f (fun _ => rfl) (n := k0_off9_inb i t1 k h5) _
    (ClosedOff.eq (off := k0_off9 k)) (by omega) x
  have hY : ∀ (x : S16.Idx), _ := fun x => readAt_lane (F := F) (x1M).view f f (fun _ => rfl) (n := k0_off10_inb i t1 k h5 0) _
    (ClosedOff.eq (off := k0_off10 k 128#32)) (by omega) x
  have hZ : ∀ (x : S16.Idx), _ := fun x => readAt_lane (F := F) (x1M).view f f (fun _ => rfl) (n := k0_off10_inb i t1 k h5 1) _
    (ClosedOff.eq (off := k0_off10 k 256#32)) (by omega) x
  unfold oddBody k0_t3_body
  rw [k0_part4_eq_skeleton, k0_part5_eq_skeleton, k0_part6_eq_skeleton]
  unfold k0_part4_skel k0_part5_skel k0_part6_skel
  iintro ⟨Hx, Ha, Hb⟩
  sl_exec
  sl_step
  isplitl [Hx]; · iexact Hx
  isplitl [Ha]
  · ihave Ha := (Entails.of_eq (congrArg (fun z => ((a1M).view.loc (thr d i) ↦{fullShare} z : sProp 𝕄))
      (group_writes (F := F) (a1M).view (fun j => ⟨j, rfl⟩) _ (upTo (k.val + 1) (outAt WTS f 0) g8) g8 (outAt WTS f 0) k.val
        (fun _ => rfl) (fun _ => rfl) ClosedOff.eq ClosedOff.eq ClosedOff.eq ClosedOff.eq ClosedOff.eq ClosedOff.eq ClosedOff.eq ClosedOff.eq
        ?_))) $$ Ha
    · intro x r y hy
      rw [outAt_row WTS f 0 y (x 0).isLt r.isLt hy]
      erw [← hX x, ← hY x, ← hZ x]
      fin_cases r <;> rfl
    · iexact Ha
  · ihave Hb := (Entails.of_eq (congrArg (fun z => ((b1M).view.loc (thr d i) ↦{fullShare} z : sProp 𝕄))
      (group_writes (F := F) (b1M).view (fun j => ⟨j, rfl⟩) _ (upTo (k.val + 1) (outAt WTS f 1) g9) g9 (outAt WTS f 1) k.val
        (fun _ => rfl) (fun _ => rfl) ClosedOff.eq ClosedOff.eq ClosedOff.eq ClosedOff.eq ClosedOff.eq ClosedOff.eq ClosedOff.eq ClosedOff.eq
        ?_))) $$ Hb
    · intro x r y hy
      rw [outAt_row WTS f 1 y (x 0).isLt r.isLt hy]
      erw [← hX x, ← hY x, ← hZ x]
      fin_cases r <;> rfl
    · iexact Hb

end Trip

end Cert.Proof.KernelIdeal
-- ==== Proof.IdealOuter.lean ====
/-
  The kernel's outer loop: one block of 1280 points per trip. Even blocks go through one set of buffers and odd blocks
  through another; while a block is computed, the next block's input is on its way in and the results of the two blocks
  before it are on their way out, two copies of one block on one semaphore. This module states what the tile holds
  between two trips and runs one trip of each parity.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.IdealInner
public import Idealize.ShloMosaic.Lib.Batch
public import Idealize.ShloMosaic.Lib.Ring

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xM" => (Memref.whole Cert.KernelIdeal.main_v3_scv : Memref Cert.KernelIdeal.sig Kind.scVector Space.hbm Cert.KernelIdeal.S4800000 EltTy.f32)
local notation "clmM" => (Memref.whole Cert.KernelIdeal.main_v5_scv : Memref Cert.KernelIdeal.sig Kind.scVector Space.hbm Cert.KernelIdeal.S32 EltTy.f32)
local notation "nsM" => (Memref.whole Cert.KernelIdeal.main_arg4_scv : Memref Cert.KernelIdeal.sig Kind.scVector Space.hbm Cert.KernelIdeal.S16 EltTy.f32)
local notation "oM" => (Memref.whole Cert.KernelIdeal.main_v6_scv : Memref Cert.KernelIdeal.sig Kind.scVector Space.hbm Cert.KernelIdeal.S25600000 EltTy.f32)
local notation "x0M" => (Memref.whole Cert.KernelIdeal.cc0_scratch0 : Memref Cert.KernelIdeal.sig Kind.scVector Space.vmem Cert.KernelIdeal.S3840 EltTy.f32)
local notation "x1M" => (Memref.whole Cert.KernelIdeal.cc0_scratch1 : Memref Cert.KernelIdeal.sig Kind.scVector Space.vmem Cert.KernelIdeal.S3840 EltTy.f32)
local notation "a0M" => (Memref.whole Cert.KernelIdeal.cc0_scratch2 : Memref Cert.KernelIdeal.sig Kind.scVector Space.vmem Cert.KernelIdeal.S10240 EltTy.f32)
local notation "b0M" => (Memref.whole Cert.KernelIdeal.cc0_scratch3 : Memref Cert.KernelIdeal.sig Kind.scVector Space.vmem Cert.KernelIdeal.S10240 EltTy.f32)
local notation "a1M" => (Memref.whole Cert.KernelIdeal.cc0_scratch4 : Memref Cert.KernelIdeal.sig Kind.scVector Space.vmem Cert.KernelIdeal.S10240 EltTy.f32)
local notation "b1M" => (Memref.whole Cert.KernelIdeal.cc0_scratch5 : Memref Cert.KernelIdeal.sig Kind.scVector Space.vmem Cert.KernelIdeal.S10240 EltTy.f32)
local notation "cM" => (Memref.whole Cert.KernelIdeal.cc0_scratch6 : Memref Cert.KernelIdeal.sig Kind.scVector Space.vmem Cert.KernelIdeal.S32 EltTy.f32)
local notation "nM" => (Memref.whole Cert.KernelIdeal.cc0_scratch7 : Memref Cert.KernelIdeal.sig Kind.scVector Space.vmem Cert.KernelIdeal.S16 EltTy.f32)

/-! ## Blocks -/

/-- The number of trips of a tile's outer loop. -/
abbrev nT (i : grid0.Coords) : ℕ := (k0_t1_loop i).trips

/-- The block the tile works on at trip `k`. -/
def bk (i : grid0.Coords) (k : ℕ) : ℕ := 2 * (i 1).val + (i 0).val + 32 * k

theorem cond2_iff : ∀ (i : grid0.Coords) (k : Fin (k0_t1_loop i).trips), k0_cond2 i k = 1#1 ↔ k.val % 2 = 0 := by decide +kernel
theorem cond5_iff : ∀ (i : grid0.Coords) (k : Fin (k0_t1_loop i).trips), k0_cond5 i k = 1#1 ↔ k.val % 2 = 1 := by decide +kernel
theorem cond3_iff : ∀ (i : grid0.Coords) (k : Fin (k0_t1_loop i).trips), k0_cond3 i k = 1#1 ↔ k.val + 1 < nT i := by decide +kernel
theorem cond6_iff : ∀ (i : grid0.Coords) (k : Fin (k0_t1_loop i).trips), k0_cond6 i k = 1#1 ↔ k.val + 1 < nT i := by decide +kernel
theorem ge2_iff : ∀ (k : Fin 40), Scalar.cmpi .ne (Scalar.extui (Scalar.cmpi .sge (Scf.iv 0#32 1#32 k.val) 2#32) : BitVec 32) 0#32 = 1#1 ↔ 2 ≤ k.val := by decide +kernel
theorem bk_lt : ∀ (i : grid0.Coords) (k : Fin (k0_t1_loop i).trips), bk i k.val < 1250 := by unfold bk; decide +kernel

/-- The words of the input array that hold the block starting at word `n`. -/
def xSet (n : ℕ) : Finset (S4800000.Idx) := Finset.univ.filter fun y => n ≤ (y 0).val ∧ (y 0).val < n + 3840
/-- The words of the output array that hold half a block's results, starting at word `n`. -/
def oSet (n : ℕ) : Finset (S25600000.Idx) := Finset.univ.filter fun y => n ≤ (y 0).val ∧ (y 0).val < n + 10240

theorem forall_one (P : Fin 1 → Prop) : (∀ a, P a) ↔ P 0 := ⟨fun h => h 0, fun h a => Fin.fin_one_eq_zero a ▸ h⟩

theorem set_xM {o : Fin 1 → ℕ} {n} (c : ℕ) (ho : o = ![c]) :
    ((xM).slice (Rect.unit (s := S4800000) o S3840.size n) (fun _ => rfl)).view.set = xSet c := by
  subst ho
  show ((View.whole main_v3_scv).slice (Rect.unit (s := S4800000) ![c] S3840.size n)).set = _
  rw [View.set_slice_whole]
  ext y
  exact Rect.mem_set_unit.trans ((forall_one _).trans (by simp [xSet, S3840]))

theorem set_oM {o : Fin 1 → ℕ} {n} (c : ℕ) (ho : o = ![c]) :
    ((oM).slice (Rect.unit (s := S25600000) o S10240.size n) (fun _ => rfl)).view.set = oSet c := by
  subst ho
  show ((View.whole main_v6_scv).slice (Rect.unit (s := S25600000) ![c] S10240.size n)).set = _
  rw [View.set_slice_whole]
  ext y
  exact Rect.mem_set_unit.trans ((forall_one _).trans (by simp [oSet, S10240]))

/-- The points of block `b`, as the tile's buffer holds them. -/
def blk (X : S4800000.Idx → F .f32) (b : ℕ) : S3840.Idx → F .f32 := fun j => X (ix 4800000 (b * 3840 + (j 0).val))
local notation "s8" => (SemLoc.dma (SemArray.sem cc0_scratch8) : SemLoc Cert.KernelIdeal.sig)
local notation "s9" => (SemLoc.dma (SemArray.sem cc0_scratch9) : SemLoc Cert.KernelIdeal.sig)
local notation "s10" => (SemLoc.dma (SemArray.sem cc0_scratch10) : SemLoc Cert.KernelIdeal.sig)
local notation "s11" => (SemLoc.dma (SemArray.sem cc0_scratch11) : SemLoc Cert.KernelIdeal.sig)

/-- A whole buffer written from a slice of the input array holds the slice's words. -/
theorem land_in {o : Fin 1 → ℕ} {n} (c : ℕ) (ho : o = ![c]) (hc : c + 3840 ≤ 4800000) (M : Memref sig .scVector .vmem S3840 .f32)
    (f g : M.view.ty.Contents (Elt F)) (X : S4800000.Idx → F .f32)
    (hM : ∀ j : S3840.Idx, M.view.read (Elt F) g j = X (ix 4800000 (c + (j 0).val))) (hs : M.view.set = Finset.univ) :
    View.write (Elt F) M.view f (ReadAs.same.apply (((xM).slice (Rect.unit (s := S4800000) o S3840.size n) (fun _ => rfl)).view.read (Elt F) X)) Finset.univ
      = g := by
  subst ho
  funext y
  obtain ⟨j, -, rfl⟩ := Finset.mem_map.mp (hs ▸ Finset.mem_univ y : y ∈ M.view.set)
  rw [View.write_emb_of_mem _ _ (Finset.mem_univ j)]
  have h1 := hM j
  rw [View.read_apply] at h1
  have h2 : (ReadAs.same.apply (((xM).slice (Rect.unit (s := S4800000) ![c] S3840.size n) (fun _ => rfl)).view.read (Elt F) X)) j
      = X (ix 4800000 (c + (j 0).val)) := by
    refine congrArg X (idx_ext ?_)
    have : (j 0).val < 3840 := (j 0).isLt
    rw [ix_val, Nat.mod_eq_of_lt (by omega)]
    show c + 1 * (j 0).val = _
    omega
  rw [h2, ← h1, cast_cast, cast_eq]

theorem land_out {o : Fin 1 → ℕ} {n} (d : Dev nD) (i : grid0.Coords) (c : ℕ) (ho : o = ![c]) (hc : c + 10240 ≤ 25600000)
    (f0 R : S25600000.Idx → F .f32) (w : S10240.Idx → F .f32) (hR : ∀ j : S10240.Idx, w j = R (ix 25600000 (c + (j 0).val))) :
    ((((oM).slice (Rect.unit (s := S25600000) o S10240.size n) (fun _ => rfl)).view.loc (thr d i)
      ↦[((oM).slice (Rect.unit (s := S25600000) o S10240.size n) (fun _ => rfl)).view.set]{fullShare}
        ((oM).slice (Rect.unit (s := S25600000) o S10240.size n) (fun _ => rfl)).view.writes (Elt F) f0
          [⟨Rect.whole S10240, ReadAs.same.apply w⟩] : sProp 𝕄))
      = ((oM).view.loc (thr d i) ↦[oSet c]{fullShare} R) := by
  rw [set_oM c ho]
  subst ho
  refine pointsTo_congr fun y hy => ?_
  refine (congrFun (View.write_univ_eq_writes_whole (Val := Elt F) ((oM).slice (Rect.unit (s := S25600000) ![c] S10240.size n) (fun _ => rfl)).view f0 [] _).symm y).trans ?_
  have hy' : y ∈ ((oM).slice (Rect.unit (s := S25600000) ![c] S10240.size n) (fun _ => rfl)).view.set := (set_oM (n := n) c rfl).symm ▸ hy
  obtain ⟨j, -, rfl⟩ := Finset.mem_map.mp hy'
  rw [View.write_emb_of_mem _ _ (Finset.mem_univ j)]
  refine (hR j).trans (congrArg R (idx_ext ?_))
  have : (j 0).val < 10240 := (j 0).isLt
  rw [ix_val, Nat.mod_eq_of_lt (by omega)]
  show _ = c + 1 * (j 0).val
  omega

/-- The words of the results' array that the block of trip `k` fills, computed with weights `w` from the points `X`. -/
def res [FloatOps F] (w : Fin 28 → F .f32) (X : S4800000.Idx → F .f32) (y : S25600000.Idx) : F .f32 :=
  outAt w (blk X ((y 0).val % 12800000 / 10240)) ⟨(y 0).val / 12800000, Nat.div_lt_of_lt_mul (y 0).isLt⟩ (ix 10240 ((y 0).val % 10240))

theorem res_at [FloatOps F] (w : Fin 28 → F .f32) (X : S4800000.Idx → F .f32) (h : Fin 2) (b : ℕ) (hb : b < 1250) (j : S10240.Idx) :
    outAt w (blk X b) h j = res w X (ix 25600000 (12800000 * h.val + 10240 * b + (j 0).val)) := by
  have hj : (j 0).val < 10240 := (j 0).isLt
  have hh : h.val < 2 := h.isLt
  unfold res
  have e : (ix 25600000 (12800000 * h.val + 10240 * b + (j 0).val) 0).val = 12800000 * h.val + 10240 * b + (j 0).val := by
    rw [ix_val, Nat.mod_eq_of_lt (by omega)]
  have e1 : (ix 25600000 (12800000 * h.val + 10240 * b + (j 0).val) 0).val % 12800000 / 10240 = b := by rw [e]; omega
  have e2 : ix 10240 ((ix 25600000 (12800000 * h.val + 10240 * b + (j 0).val) 0).val % 10240) = j := by
    rw [e]; refine idx_ext ?_; rw [ix_val]; omega
  rw [e1, e2]
  congr 1
  exact Fin.ext (by show h.val = (ix 25600000 _ 0).val / 12800000; rw [e]; omega)

section Held

variable (d : Dev nD) (i : grid0.Coords)

/-- The input block of trip `k`, held. -/
def xP (X : S4800000.Idx → F .f32) (k : ℕ) : sProp 𝕄 := (xM).view.loc (thr d i) ↦[xSet (3840 * bk i k)]{fullShare} X

/-- The two output blocks of trip `k`, held with the words of `G`. -/
def oP (G : S25600000.Idx → F .f32) (k : ℕ) : sProp 𝕄 :=
  iprop(((oM).view.loc (thr d i) ↦[oSet (10240 * bk i k)]{fullShare} G) ∗ ((oM).view.loc (thr d i) ↦[oSet (12800000 + 10240 * bk i k)]{fullShare} G))

/-- What the two copies of an even block's results deliver: each half of the block landed, and its buffer back. -/
abbrev dlv0 (k : Fin (k0_t1_loop i).trips) (h2 : k0_cond2 i k = 1#1) (O0 : S25600000.Idx → F .f32) (ga gb : S10240.Idx → F .f32) : Fin 2 → sProp 𝕄 :=
  ![iprop((((oM).slice (Rect.unit (s := S25600000) (k0_off6 i k) S10240.size (k0_off6_inb i k h2)) (fun _ => rfl)).view.loc (thr d i)
        ↦[((oM).slice (Rect.unit (s := S25600000) (k0_off6 i k) S10240.size (k0_off6_inb i k h2)) (fun _ => rfl)).view.set]{fullShare}
          ((oM).slice (Rect.unit (s := S25600000) (k0_off6 i k) S10240.size (k0_off6_inb i k h2)) (fun _ => rfl)).view.writes (Elt F) O0
            [⟨Rect.whole S10240, ReadAs.same.apply ((a0M).view.read (Elt F) ga)⟩])
      ∗ ((a0M).view.loc (thr d i) ↦[(a0M).view.set]{fullShare} ga)),
    iprop((((oM).slice (Rect.unit (s := S25600000) (k0_off7 i k) S10240.size (k0_off7_inb i k h2)) (fun _ => rfl)).view.loc (thr d i)
        ↦[((oM).slice (Rect.unit (s := S25600000) (k0_off7 i k) S10240.size (k0_off7_inb i k h2)) (fun _ => rfl)).view.set]{fullShare}
          ((oM).slice (Rect.unit (s := S25600000) (k0_off7 i k) S10240.size (k0_off7_inb i k h2)) (fun _ => rfl)).view.writes (Elt F) O0
            [⟨Rect.whole S10240, ReadAs.same.apply ((b0M).view.read (Elt F) gb)⟩])
      ∗ ((b0M).view.loc (thr d i) ↦[(b0M).view.set]{fullShare} gb))]

/-- The same for an odd block. -/
abbrev dlv1 (k : Fin (k0_t1_loop i).trips) (h5 : k0_cond5 i k = 1#1) (O0 : S25600000.Idx → F .f32) (ga gb : S10240.Idx → F .f32) : Fin 2 → sProp 𝕄 :=
  ![iprop((((oM).slice (Rect.unit (s := S25600000) (k0_off12 i k) S10240.size (k0_off12_inb i k h5)) (fun _ => rfl)).view.loc (thr d i)
        ↦[((oM).slice (Rect.unit (s := S25600000) (k0_off12 i k) S10240.size (k0_off12_inb i k h5)) (fun _ => rfl)).view.set]{fullShare}
          ((oM).slice (Rect.unit (s := S25600000) (k0_off12 i k) S10240.size (k0_off12_inb i k h5)) (fun _ => rfl)).view.writes (Elt F) O0
            [⟨Rect.whole S10240, ReadAs.same.apply ((a1M).view.read (Elt F) ga)⟩])
      ∗ ((a1M).view.loc (thr d i) ↦[(a1M).view.set]{fullShare} ga)),
    iprop((((oM).slice (Rect.unit (s := S25600000) (k0_off13 i k) S10240.size (k0_off13_inb i k h5)) (fun _ => rfl)).view.loc (thr d i)
        ↦[((oM).slice (Rect.unit (s := S25600000) (k0_off13 i k) S10240.size (k0_off13_inb i k h5)) (fun _ => rfl)).view.set]{fullShare}
          ((oM).slice (Rect.unit (s := S25600000) (k0_off13 i k) S10240.size (k0_off13_inb i k h5)) (fun _ => rfl)).view.writes (Elt F) O0
            [⟨Rect.whole S10240, ReadAs.same.apply ((b1M).view.read (Elt F) gb)⟩])
      ∗ ((b1M).view.loc (thr d i) ↦[(b1M).view.set]{fullShare} gb))]

instance dlv0_storable (k : Fin (k0_t1_loop i).trips) (h2 : k0_cond2 i k = 1#1) (O0 : S25600000.Idx → F .f32) (ga gb : S10240.Idx → F .f32) :
    ∀ t, Storable (upEmb : UEmb _ 𝕄) (dlv0 (F := F) d i k h2 O0 ga gb t) :=
  Fin.forall_fin_two.mpr ⟨inferInstanceAs (Storable _ iprop(_ ∗ _)), inferInstanceAs (Storable _ iprop(_ ∗ _))⟩
instance dlv1_storable (k : Fin (k0_t1_loop i).trips) (h5 : k0_cond5 i k = 1#1) (O0 : S25600000.Idx → F .f32) (ga gb : S10240.Idx → F .f32) :
    ∀ t, Storable (upEmb : UEmb _ 𝕄) (dlv1 (F := F) d i k h5 O0 ga gb t) :=
  Fin.forall_fin_two.mpr ⟨inferInstanceAs (Storable _ iprop(_ ∗ _)), inferInstanceAs (Storable _ iprop(_ ∗ _))⟩

/-- The even input buffer with no copy under way. -/
def idle0 : sProp 𝕄 := iprop((∃ f, (x0M).view.loc (thr d i) ↦{fullShare} f) ∗ semVal (thr d i, s8) 0)
/-- The odd input buffer with no copy under way. -/
def idle1 : sProp 𝕄 := iprop((∃ f, (x1M).view.loc (thr d i) ↦{fullShare} f) ∗ semVal (thr d i, s9) 0)

/-- The copy of the block of trip `k` into the even input buffer, under way. -/
def fly0 (X : S4800000.Idx → F .f32) (k : ℕ) : sProp 𝕄 :=
  Transfers.Flight (countersEmb (U := UU)) (thr d i) s8 (none : HIx 1) ((x0M).view.amount s8)
    iprop(((x0M).view.loc (thr d i) ↦{fullShare} blk X (bk i k)) ∗ ((xM).view.loc (thr d i) ↦[xSet (3840 * bk i k)]{fullShare} X))
/-- The copy of the block of trip `k` into the odd input buffer, under way. -/
def fly1 (X : S4800000.Idx → F .f32) (k : ℕ) : sProp 𝕄 :=
  Transfers.Flight (countersEmb (U := UU)) (thr d i) s9 (none : HIx 1) ((x1M).view.amount s9)
    iprop(((x1M).view.loc (thr d i) ↦{fullShare} blk X (bk i k)) ∗ ((xM).view.loc (thr d i) ↦[xSet (3840 * bk i k)]{fullShare} X))

/-- The even input buffer before trip `k`: its copy under way if there is such a trip. -/
def in0 (X : S4800000.Idx → F .f32) (k : ℕ) : sProp 𝕄 := if k < nT i then fly0 d i X k else idle0 d i
/-- The odd input buffer before trip `k`. -/
def in1 (X : S4800000.Idx → F .f32) (k : ℕ) : sProp 𝕄 := if k < nT i then fly1 d i X k else idle1 d i

/-- The even output buffers after `q` even blocks: the last one's two copies under way. -/
def out0 [FloatOps F] (w : Fin 28 → F .f32) (X : S4800000.Idx → F .f32) (O0 : S25600000.Idx → F .f32) : ℕ → sProp 𝕄
  | 0 => iprop((∃ f, (a0M).view.loc (thr d i) ↦{fullShare} f) ∗ (∃ f, (b0M).view.loc (thr d i) ↦{fullShare} f) ∗ semVal (thr d i, s10) 0)
  | q + 1 => iprop(∃ (t : Fin (k0_t1_loop i).trips) (h2 : k0_cond2 i t = 1#1), ⌜t.val = 2 * q⌝
      ∗ Transfers.Batch (countersEmb (U := UU)) (thr d i) s10 (none : HIx 1) ((a0M).view.amount s10)
          (dlv0 d i t h2 O0 (outAt w (blk X (bk i t.val)) 0) (outAt w (blk X (bk i t.val)) 1)) 2 0)
/-- The odd output buffers after `q` odd blocks. -/
def out1 [FloatOps F] (w : Fin 28 → F .f32) (X : S4800000.Idx → F .f32) (O0 : S25600000.Idx → F .f32) : ℕ → sProp 𝕄
  | 0 => iprop((∃ f, (a1M).view.loc (thr d i) ↦{fullShare} f) ∗ (∃ f, (b1M).view.loc (thr d i) ↦{fullShare} f) ∗ semVal (thr d i, s11) 0)
  | q + 1 => iprop(∃ (t : Fin (k0_t1_loop i).trips) (h5 : k0_cond5 i t = 1#1), ⌜t.val = 2 * q + 1⌝
      ∗ Transfers.Batch (countersEmb (U := UU)) (thr d i) s11 (none : HIx 1) ((a1M).view.amount s11)
          (dlv1 d i t h5 O0 (outAt w (blk X (bk i t.val)) 0) (outAt w (blk X (bk i t.val)) 1)) 2 0)

theorem out0_zero [FloatOps F] (w : Fin 28 → F .f32) (X : S4800000.Idx → F .f32) (O0 : S25600000.Idx → F .f32) :
    out0 (F := F) d i w X O0 0 = iprop((∃ f, (a0M).view.loc (thr d i) ↦{fullShare} f) ∗ (∃ f, (b0M).view.loc (thr d i) ↦{fullShare} f)
      ∗ semVal (thr d i, s10) 0) := rfl
theorem out0_succ [FloatOps F] (w : Fin 28 → F .f32) (X : S4800000.Idx → F .f32) (O0 : S25600000.Idx → F .f32) (q : ℕ) :
    out0 (F := F) d i w X O0 (q + 1) = iprop(∃ (t : Fin (k0_t1_loop i).trips) (h2 : k0_cond2 i t = 1#1), ⌜t.val = 2 * q⌝
      ∗ Transfers.Batch (countersEmb (U := UU)) (thr d i) s10 (none : HIx 1) ((a0M).view.amount s10)
          (dlv0 d i t h2 O0 (outAt w (blk X (bk i t.val)) 0) (outAt w (blk X (bk i t.val)) 1)) 2 0) := rfl

theorem out1_zero [FloatOps F] (w : Fin 28 → F .f32) (X : S4800000.Idx → F .f32) (O0 : S25600000.Idx → F .f32) :
    out1 (F := F) d i w X O0 0 = iprop((∃ f, (a1M).view.loc (thr d i) ↦{fullShare} f) ∗ (∃ f, (b1M).view.loc (thr d i) ↦{fullShare} f)
      ∗ semVal (thr d i, s11) 0) := rfl
theorem out1_succ [FloatOps F] (w : Fin 28 → F .f32) (X : S4800000.Idx → F .f32) (O0 : S25600000.Idx → F .f32) (q : ℕ) :
    out1 (F := F) d i w X O0 (q + 1) = iprop(∃ (t : Fin (k0_t1_loop i).trips) (h5 : k0_cond5 i t = 1#1), ⌜t.val = 2 * q + 1⌝
      ∗ Transfers.Batch (countersEmb (U := UU)) (thr d i) s11 (none : HIx 1) ((a1M).view.amount s11)
          (dlv1 d i t h5 O0 (outAt w (blk X (bk i t.val)) 0) (outAt w (blk X (bk i t.val)) 1)) 2 0) := rfl

theorem whole_a0 (f : S10240.Idx → F .f32) :
    (((a0M).view.loc (thr d i) ↦[(a0M).view.set]{fullShare} f : sProp 𝕄)) = ((a0M).view.loc (thr d i) ↦{fullShare} f) := by
  rw [show (a0M).view.set = Finset.univ from View.set_whole _]
theorem whole_b0 (f : S10240.Idx → F .f32) :
    (((b0M).view.loc (thr d i) ↦[(b0M).view.set]{fullShare} f : sProp 𝕄)) = ((b0M).view.loc (thr d i) ↦{fullShare} f) := by
  rw [show (b0M).view.set = Finset.univ from View.set_whole _]
theorem whole_a1 (f : S10240.Idx → F .f32) :
    (((a1M).view.loc (thr d i) ↦[(a1M).view.set]{fullShare} f : sProp 𝕄)) = ((a1M).view.loc (thr d i) ↦{fullShare} f) := by
  rw [show (a1M).view.set = Finset.univ from View.set_whole _]
theorem whole_b1 (f : S10240.Idx → F .f32) :
    (((b1M).view.loc (thr d i) ↦[(b1M).view.set]{fullShare} f : sProp 𝕄)) = ((b1M).view.loc (thr d i) ↦{fullShare} f) := by
  rw [show (b1M).view.set = Finset.univ from View.set_whole _]

/-- A copy of the block of trip `k` just issued into the even input buffer. -/
theorem fly0_intro (X : S4800000.Idx → F .f32) (k : ℕ) (hb : bk i k < 1250) {o : Fin 1 → ℕ} {n} (ho : o = ![3840 * bk i k]) (f : S3840.Idx → F .f32) :
    Transfers.Flight (countersEmb (U := UU)) (thr d i) s8 (none : HIx 1) ((x0M).view.amount s8)
      iprop(((x0M).view.loc (thr d i) ↦{fullShare} View.write (Elt F) (x0M).view f
          (ReadAs.same.apply (((xM).slice (Rect.unit (s := S4800000) o S3840.size n) (fun _ => rfl)).view.read (Elt F) X)) Finset.univ)
        ∗ (((xM).slice (Rect.unit (s := S4800000) o S3840.size n) (fun _ => rfl)).view.loc (thr d i)
          ↦[((xM).slice (Rect.unit (s := S4800000) o S3840.size n) (fun _ => rfl)).view.set]{fullShare} X))
      ⊢ (fly0 d i X k : sProp 𝕄) := by
  refine Transfers.Flight_mono _ _ ?_
  rw [set_xM _ ho, land_in (F := F) (3840 * bk i k) ho (by omega) (x0M) f (blk X (bk i k)) X (fun j => ?_) (View.set_whole _)]
  exact congrArg (fun n => X (ix 4800000 (n + (j 0).val))) (Nat.mul_comm (bk i k) 3840)
theorem fly1_intro (X : S4800000.Idx → F .f32) (k : ℕ) (hb : bk i k < 1250) {o : Fin 1 → ℕ} {n} (ho : o = ![3840 * bk i k]) (f : S3840.Idx → F .f32) :
    Transfers.Flight (countersEmb (U := UU)) (thr d i) s9 (none : HIx 1) ((x1M).view.amount s9)
      iprop(((x1M).view.loc (thr d i) ↦{fullShare} View.write (Elt F) (x1M).view f
          (ReadAs.same.apply (((xM).slice (Rect.unit (s := S4800000) o S3840.size n) (fun _ => rfl)).view.read (Elt F) X)) Finset.univ)
        ∗ (((xM).slice (Rect.unit (s := S4800000) o S3840.size n) (fun _ => rfl)).view.loc (thr d i)
          ↦[((xM).slice (Rect.unit (s := S4800000) o S3840.size n) (fun _ => rfl)).view.set]{fullShare} X))
      ⊢ (fly1 d i X k : sProp 𝕄) := by
  refine Transfers.Flight_mono _ _ ?_
  rw [set_xM _ ho, land_in (F := F) (3840 * bk i k) ho (by omega) (x1M) f (blk X (bk i k)) X (fun j => ?_) (View.set_whole _)]
  exact congrArg (fun n => X (ix 4800000 (n + (j 0).val))) (Nat.mul_comm (bk i k) 3840)

/-- The two halves of a block's results, landed, are the block's words of the results' array. -/
theorem landed [FloatOps F] (w : Fin 28 → F .f32) (X : S4800000.Idx → F .f32) (k : ℕ) (hb : bk i k < 1250) {o o' : Fin 1 → ℕ} {n n'}
    (ho : o = ![10240 * bk i k]) (ho' : o' = ![12800000 + 10240 * bk i k]) (f f' : S25600000.Idx → F .f32)
    (ga gb : S10240.Idx → F .f32) (ha : ga = outAt w (blk X (bk i k)) 0) (hb' : gb = outAt w (blk X (bk i k)) 1) :
    (iprop((((oM).slice (Rect.unit (s := S25600000) o S10240.size n) (fun _ => rfl)).view.loc (thr d i)
      ↦[((oM).slice (Rect.unit (s := S25600000) o S10240.size n) (fun _ => rfl)).view.set]{fullShare}
        ((oM).slice (Rect.unit (s := S25600000) o S10240.size n) (fun _ => rfl)).view.writes (Elt F) f
          [⟨Rect.whole S10240, ReadAs.same.apply ga⟩])
      ∗ (((oM).slice (Rect.unit (s := S25600000) o' S10240.size n') (fun _ => rfl)).view.loc (thr d i)
      ↦[((oM).slice (Rect.unit (s := S25600000) o' S10240.size n') (fun _ => rfl)).view.set]{fullShare}
        ((oM).slice (Rect.unit (s := S25600000) o' S10240.size n') (fun _ => rfl)).view.writes (Elt F) f'
          [⟨Rect.whole S10240, ReadAs.same.apply gb⟩])) : sProp 𝕄) = oP d i (res w X) k := by
  subst ha hb'
  rw [land_out d i (10240 * bk i k) ho (by omega) f (res w X) _ (fun j => (res_at w X 0 (bk i k) hb j).trans (congrArg (fun n => res w X (ix 25600000 n)) (by simp))),
    land_out d i (12800000 + 10240 * bk i k) ho' (by omega) f' (res w X) _ (fun j => (res_at w X 1 (bk i k) hb j).trans (congrArg (fun n => res w X (ix 25600000 n)) (by simp)))]
  rfl

/-- Every wait recorded beyond `W` is of a copy. -/
def Recs (W W' : Waits sig (HIx 1)) : Prop := ∀ p ∈ W', p ∈ W ∨ p.2 = none

theorem Recs.insert {W W' : Waits sig (HIx 1)} (h : Recs W W') (s : SemLoc sig) : Recs W (insert (s, (none : HIx 1)) W') := by
  intro p hp
  rcases Finset.mem_insert.mp hp with hp | hp
  · exact .inr (hp ▸ rfl)
  · exact h p hp

/-- The semaphore at rest takes a block's two copies. -/
theorem alloc0 (k : Fin (k0_t1_loop i).trips) (h2 : k0_cond2 i k = 1#1) (O0 : S25600000.Idx → F .f32) (ga gb : S10240.Idx → F .f32) :
    (semVal (thr d i, s10) 0 : sProp 𝕄) ⊢ |={Set.univ}=> Transfers.Batch (countersEmb (U := UU)) (thr d i) s10 (none : HIx 1)
      ((a0M).view.amount s10) (dlv0 d i k h2 O0 ga gb) 0 0 := by
  haveI := dlv0_storable (F := F) d i k h2 O0 ga gb
  exact Transfers.batch_alloc' (Lvl := ℕ) (countersEmb (U := UU)) (thr d i) (none : HIx 1) ((a0M).view.amount s10) (dlv0 d i k h2 O0 ga gb) (sm := s10)
theorem alloc1 (k : Fin (k0_t1_loop i).trips) (h5 : k0_cond5 i k = 1#1) (O0 : S25600000.Idx → F .f32) (ga gb : S10240.Idx → F .f32) :
    (semVal (thr d i, s11) 0 : sProp 𝕄) ⊢ |={Set.univ}=> Transfers.Batch (countersEmb (U := UU)) (thr d i) s11 (none : HIx 1)
      ((a1M).view.amount s11) (dlv1 d i k h5 O0 ga gb) 0 0 := by
  haveI := dlv1_storable (F := F) d i k h5 O0 ga gb
  exact Transfers.batch_alloc' (Lvl := ℕ) (countersEmb (U := UU)) (thr d i) (none : HIx 1) ((a1M).view.amount s11) (dlv1 d i k h5 O0 ga gb) (sm := s11)

theorem owes_recs {O : CellTallies nD τ sig (HIx 1)} {W W' : Waits sig (HIx 1)} (h : Recs W W') :
    (owes (thr d i) O W' : sProp 𝕄) ⊢ iprop(∃ W'', ⌜Recs W W''⌝ ∗ owes (thr d i) O W'') := by
  iintro H
  iexists W'
  isplitr
  · ipureintro; exact h
  · iexact H

end Held

section Step

variable [FloatOps F] [∀ e, Nonempty (Elt F e)] (d : Dev nD) (i : grid0.Coords)
variable (v1 v21 : BitVec 32) (v26 v27 : Vec F S16 .f32)
variable (v32 v37 v42 v47 v52 v57 v62 v67 v72 v77 v82 v87 v92 v97 v102 v107 v112 v117 v122 v127 v132 v137 v142 v147 v152 v154 v156 : F .f32)

local notation "WTS" => wts v26 v27 v32 v37 v42 v47 v52 v57 v62 v67 v72 v77 v82 v87 v92 v97 v102 v107 v112 v117 v122 v127 v132 v137 v142 v147 v152 v154 v156

/-- One trip of the outer loop, over the launch's buffers. -/
abbrev outerBody :=
  k0_t1_body (F := F) i xM (Memref.isWhole_whole _) clmM (Memref.isWhole_whole _) nsM (Memref.isWhole_whole _) oM (Memref.isWhole_whole _)
    x0M (Memref.isWhole_whole _) x1M (Memref.isWhole_whole _) a0M (Memref.isWhole_whole _) b0M (Memref.isWhole_whole _)
    a1M (Memref.isWhole_whole _) b1M (Memref.isWhole_whole _) cM (Memref.isWhole_whole _) nM (Memref.isWhole_whole _)
    cc0_scratch8 cc0_scratch9 cc0_scratch10 cc0_scratch11 cc0_scoped0 cc0_scoped1 v1 v21 v26 v27 v32 v37 v42 v47 v52 v57 v62 v67 v72 v77 v82 v87 v92 v97 v102 v107 v112 v117 v122 v127 v132 v137 v142 v147 v152 v154 v156

/-- What the inner loop holds before its trip `kk`. -/
def inner0 (f : S3840.Idx → F .f32) (ga gb : S10240.Idx → F .f32) (w : Fin 28 → F .f32) (kk : ℕ) (_ : Unit) : sProp 𝕄 :=
  iprop(((x0M).view.loc (thr d i) ↦{fullShare} f) ∗ ((a0M).view.loc (thr d i) ↦{fullShare} upTo kk (outAt w f 0) ga)
    ∗ ((b0M).view.loc (thr d i) ↦{fullShare} upTo kk (outAt w f 1) gb))

set_option maxHeartbeats 2000000 in
/-- A trip on an even block. -/
theorem even_step (k : Fin (k0_t1_loop i).trips) (hk : k.val % 2 = 0) (X : S4800000.Idx → F .f32)
    (O0 : S25600000.Idx → F .f32) (O : CellTallies nD τ sig (HIx 1)) (W W' : Waits sig (HIx 1)) (hW : Recs W W') :
    iprop(Transfers.MayWaits (thr d i) (none : HIx 1) O ∗ fly0 d i X k.val ∗ idle1 d i ∗ out0 d i WTS X O0 (k.val / 2)
        ∗ (if k.val + 1 < nT i then xP d i X (k.val + 1) else iprop(emp)) ∗ oP d i O0 k.val ∗ owes (thr d i) O W')
      ⊢ wp (M := 𝕄) frame (wpE (defs₀ (F := F)) 𝒱₀ (thr d i) none) Set.univ (outerBody i v1 v21 v26 v27 v32 v37 v42 v47 v52 v57 v62 v67 v72 v77 v82 v87 v92 v97 v102 v107 v112 v117 v122 v127 v132 v137 v142 v147 v152 v154 v156 k ())
          fun _ => iprop(Transfers.MayWaits (thr d i) (none : HIx 1) O ∗ in1 d i X (k.val + 1) ∗ idle0 d i ∗ out0 d i WTS X O0 (k.val / 2 + 1)
            ∗ xP d i X k.val ∗ (if 2 ≤ k.val then oP d i (res WTS X) (k.val - 2) else iprop(emp))
            ∗ ∃ W'', ⌜Recs W W''⌝ ∗ owes (thr d i) O W'') := by
  have hlt := k.isLt
  have h40 : k.val < 40 := lt_of_lt_of_le k.isLt (k0_t1_abs i).2.1
  have h2 : k0_cond2 i k = 1#1 := (cond2_iff i k).mpr hk
  have h5 : ¬ k0_cond5 i k = 1#1 := fun h => by have := (cond5_iff i k).mp h; omega
  have hb := bk_lt i k
  have hge := ge2_iff ⟨k.val, h40⟩
  unfold outerBody k0_t1_body fly0 idle1
  iintro ⟨Hmw, HF, ⟨⟨%f1, Hx1⟩, Hs9⟩, Hout, Hxn, Ho, HO⟩
  have hW8 := hW.insert s8
  have hoff : k0_off2 i k = ![3840 * bk i (k.val + 1)] := by rw [k0_off2_eq]; unfold bk; congr 1; omega
  obtain ⟨q, hq⟩ : ∃ q, k.val = 2 * q := ⟨k.val / 2, by omega⟩
  have hq' : k.val / 2 = q := by omega
  rw [hq']
  have hex : ∀ h3 : k0_cond3 i k = 1#1, xP (F := F) d i X (k.val + 1)
      = (((xM).slice (Rect.unit (s := S4800000) (k0_off2 i k) S3840.size (k0_off2_inb i k h2 h3)) (fun _ => rfl)).view.loc (thr d i)
        ↦[((xM).slice (Rect.unit (s := S4800000) (k0_off2 i k) S3840.size (k0_off2_inb i k h2 h3)) (fun _ => rfl)).view.set]{fullShare} X) := by
    intro h3
    rw [set_xM (3840 * bk i (k.val + 1)) (by rw [k0_off2_eq]; unfold bk; congr 1; omega)]
    rfl
  have heo : oP (F := F) d i O0 k.val = iprop((((oM).slice (Rect.unit (s := S25600000) (k0_off6 i k) S10240.size (k0_off6_inb i k h2)) (fun _ => rfl)).view.loc (thr d i)
        ↦[((oM).slice (Rect.unit (s := S25600000) (k0_off6 i k) S10240.size (k0_off6_inb i k h2)) (fun _ => rfl)).view.set]{fullShare} O0)
      ∗ (((oM).slice (Rect.unit (s := S25600000) (k0_off7 i k) S10240.size (k0_off7_inb i k h2)) (fun _ => rfl)).view.loc (thr d i)
        ↦[((oM).slice (Rect.unit (s := S25600000) (k0_off7 i k) S10240.size (k0_off7_inb i k h2)) (fun _ => rfl)).view.set]{fullShare} O0)) := by
    rw [set_oM (10240 * bk i k.val) (by rw [k0_off6_eq]; unfold bk; congr 1; omega),
      set_oM (12800000 + 10240 * bk i k.val) (by rw [k0_off7_eq]; unfold bk; congr 1; omega)]
    rfl
  ihave Ho' := (Entails.of_eq heo) $$ Ho
  icases Ho' with ⟨Hoa, Hob⟩
  rcases q with _ | q <;> by_cases hn : k.val + 1 < nT i
  on_goal 1 =>
    have h3 := (cond3_iff i k).mpr hn
    have hv : ¬ _ := fun h => absurd (hge.mp h) (by show ¬ 2 ≤ k.val; omega)
    ihave Hxn' := (Entails.of_eq ((if_pos hn).trans (hex h3))) $$ Hxn
    ihave Hout' := (Entails.of_eq (out0_zero (F := F) d i WTS X O0)) $$ Hout
    icases Hout' with ⟨⟨%ga, Ha⟩, ⟨%gb, Hb⟩, Hs10⟩
    sl_exec (disch := first | exact h2 | exact h3 | exact hv | exact View.amount_pos _ _ (show 0 < S3840.numel by decide))
    ihave Hin := (fly1_intro (F := F) d i X (k.val + 1) (bk_lt i ⟨k.val + 1, hn⟩) hoff f1) $$ [Hs9]
    · iexact Hs9
    ihave Hin := (Entails.of_eq (show _ = in1 (F := F) d i X (k.val + 1) from (if_pos hn).symm)) $$ Hin
    ihave Hfin := (Entails.of_eq (show iprop(emp) = (if 2 ≤ k.val then oP (F := F) d i (res WTS X) (k.val - 2) else iprop(emp)) from (if_neg (by omega)).symm)) $$ []
    · iempintro
    ihave HO := (owes_recs (F := F) d i hW8) $$ [HO]
    · iexact HO
  on_goal 2 =>
    have h3 := fun h => hn ((cond3_iff i k).mp h)
    have hv : ¬ _ := fun h => absurd (hge.mp h) (by show ¬ 2 ≤ k.val; omega)
    ihave Hout' := (Entails.of_eq (out0_zero (F := F) d i WTS X O0)) $$ Hout
    icases Hout' with ⟨⟨%ga, Ha⟩, ⟨%gb, Hb⟩, Hs10⟩
    sl_exec (disch := first | exact h2 | exact h3 | exact hv | exact View.amount_pos _ _ (show 0 < S3840.numel by decide))
    ihave Hin := (Entails.of_eq (show _ = in1 (F := F) d i X (k.val + 1) from (if_neg hn).symm)) $$ [Hx1 Hs9]
    · unfold idle1
      isplitl [Hx1]
      · iexists _; iexact Hx1
      · iexact Hs9
    ihave Hfin := (Entails.of_eq (show iprop(emp) = (if 2 ≤ k.val then oP (F := F) d i (res WTS X) (k.val - 2) else iprop(emp)) from (if_neg (by omega)).symm)) $$ []
    · iempintro
    ihave HO := (owes_recs (F := F) d i hW8) $$ [HO]
    · iexact HO
  on_goal 3 =>
    have h3 := (cond3_iff i k).mpr hn
    have hv := hge.mpr (by show 2 ≤ k.val; omega)
    ihave Hxn' := (Entails.of_eq ((if_pos hn).trans (hex h3))) $$ Hxn
    ihave Hout' := (Entails.of_eq (out0_succ (F := F) d i WTS X O0 q)) $$ Hout
    icases Hout' with ⟨%t, %ht2, %ht, Hs10⟩
    sl_exec (disch := first | exact h2 | exact h3 | exact hv | exact View.amount_pos _ _ (show 0 < S3840.numel by decide))
    ihave Hin := (fly1_intro (F := F) d i X (k.val + 1) (bk_lt i ⟨k.val + 1, hn⟩) hoff f1) $$ [Hs9]
    · iexact Hs9
    ihave Hin := (Entails.of_eq (show _ = in1 (F := F) d i X (k.val + 1) from (if_pos hn).symm)) $$ Hin
    have ht' : t.val = k.val - 2 := by omega
    have ht6 : k0_off6 i t = ![10240 * bk i t.val] := by rw [k0_off6_eq]; unfold bk; congr 1; omega
    have ht7 : k0_off7 i t = ![12800000 + 10240 * bk i t.val] := by rw [k0_off7_eq]; unfold bk; congr 1; omega
    ihave Hfin := (Entails.of_eq ((landed (F := F) d i WTS X t.val (bk_lt i t) (n := k0_off6_inb i t ht2) (n' := k0_off7_inb i t ht2) ht6 ht7 _ _ _ _ rfl rfl).trans (show _ = (if 2 ≤ k.val then oP (F := F) d i (res WTS X) (k.val - 2) else iprop(emp)) from
        (congrArg (oP d i (res WTS X)) ht').trans (if_pos (by omega)).symm))) $$ [Hs10_dst0 Hs10_dst1]
    · isplitl [Hs10_dst0]
      · iexact Hs10_dst0
      · iexact Hs10_dst1
    ihave Ha := (Entails.of_eq (whole_a0 (F := F) d i _)) $$ Hs10_src0
    ihave Hb := (Entails.of_eq (whole_b0 (F := F) d i _)) $$ Hs10_src1
    generalize outAt WTS (blk X (bk i t.val)) 0 = ga
    generalize outAt WTS (blk X (bk i t.val)) 1 = gb
    ihave HO := (owes_recs (F := F) d i ((hW8.insert s10).insert s10)) $$ [HO]
    · iexact HO
  on_goal 4 =>
    have h3 := fun h => hn ((cond3_iff i k).mp h)
    have hv := hge.mpr (by show 2 ≤ k.val; omega)
    ihave Hout' := (Entails.of_eq (out0_succ (F := F) d i WTS X O0 q)) $$ Hout
    icases Hout' with ⟨%t, %ht2, %ht, Hs10⟩
    sl_exec (disch := first | exact h2 | exact h3 | exact hv | exact View.amount_pos _ _ (show 0 < S3840.numel by decide))
    ihave Hin := (Entails.of_eq (show _ = in1 (F := F) d i X (k.val + 1) from (if_neg hn).symm)) $$ [Hx1 Hs9]
    · unfold idle1
      isplitl [Hx1]
      · iexists _; iexact Hx1
      · iexact Hs9
    have ht' : t.val = k.val - 2 := by omega
    have ht6 : k0_off6 i t = ![10240 * bk i t.val] := by rw [k0_off6_eq]; unfold bk; congr 1; omega
    have ht7 : k0_off7 i t = ![12800000 + 10240 * bk i t.val] := by rw [k0_off7_eq]; unfold bk; congr 1; omega
    ihave Hfin := (Entails.of_eq ((landed (F := F) d i WTS X t.val (bk_lt i t) (n := k0_off6_inb i t ht2) (n' := k0_off7_inb i t ht2) ht6 ht7 _ _ _ _ rfl rfl).trans (show _ = (if 2 ≤ k.val then oP (F := F) d i (res WTS X) (k.val - 2) else iprop(emp)) from
        (congrArg (oP d i (res WTS X)) ht').trans (if_pos (by omega)).symm))) $$ [Hs10_dst0 Hs10_dst1]
    · isplitl [Hs10_dst0]
      · iexact Hs10_dst0
      · iexact Hs10_dst1
    ihave Ha := (Entails.of_eq (whole_a0 (F := F) d i _)) $$ Hs10_src0
    ihave Hb := (Entails.of_eq (whole_b0 (F := F) d i _)) $$ Hs10_src1
    generalize outAt WTS (blk X (bk i t.val)) 0 = ga
    generalize outAt WTS (blk X (bk i t.val)) 1 = gb
    ihave HO := (owes_recs (F := F) d i ((hW8.insert s10).insert s10)) $$ [HO]
    · iexact HO
  all_goals
    icases HO with ⟨%W2, %hW2, HO⟩
    sl_for (inner0 d i (blk X (bk i k.val)) ga gb WTS) $$ [HF_dst Ha Hb]
    case region =>
      intro kk u
      exact even_trip d i v1 v21 v26 v27 v32 v37 v42 v47 v52 v57 v62 v67 v72 v77 v82 v87 v92 v97 v102 v107 v112 v117 v122 v127 v132 v137 v142 v147 v152 v154 v156 k h2 kk (blk X (bk i k.val)) ga gb
    · unfold inner0
      rw [upTo_zero, upTo_zero]
      isplitl [HF_dst]
      · iexact HF_dst
      isplitl [Ha]
      · iexact Ha
      · iexact Hb
    iintro %_ HI
    unfold inner0
    rw [show Scf.trips k0_t2_loop.lb k0_t2_loop.ub k0_t2_loop.st = 80 from by decide, upTo_all, upTo_all]
    icases HI with ⟨Hx, Ha, Hb⟩
    imod (alloc0 (F := F) d i k h2 O0 (outAt WTS (blk X (bk i k.val)) 0) (outAt WTS (blk X (bk i k.val)) 1)) $$ [Hs10] with HB
    · iexact Hs10
    sl_exec (disch := first | exact h5 | exact View.amount_pos _ _ (show 0 < S10240.numel by decide))
    sl_step
    isplitl [Hmw]
    · iexact Hmw
    isplitl [Hin]
    · iexact Hin
    isplitl [Hx HF]
    · unfold idle0
      isplitl [Hx]
      · iexists _; iexact Hx
      · iexact HF
    isplitl [HB]
    · iapply (Entails.of_eq (out0_succ (F := F) d i WTS X O0 _).symm)
      iexists k, h2
      isplitr
      · ipureintro; exact hq
      · iexact HB
    isplitl [HF_src]
    · unfold xP
      iexact HF_src
    isplitl [Hfin]
    · iexact Hfin
    iexists W2
    isplitr
    · ipureintro; exact hW2
    · iexact HO
/-- What the odd inner loop holds before its trip `kk`. -/
def inner1 (f : S3840.Idx → F .f32) (ga gb : S10240.Idx → F .f32) (w : Fin 28 → F .f32) (kk : ℕ) (_ : Unit) : sProp 𝕄 :=
  iprop(((x1M).view.loc (thr d i) ↦{fullShare} f) ∗ ((a1M).view.loc (thr d i) ↦{fullShare} upTo kk (outAt w f 0) ga)
    ∗ ((b1M).view.loc (thr d i) ↦{fullShare} upTo kk (outAt w f 1) gb))

set_option maxHeartbeats 2000000 in
/-- A trip on an odd block. -/
theorem odd_step (k : Fin (k0_t1_loop i).trips) (hk : k.val % 2 = 1) (X : S4800000.Idx → F .f32)
    (O0 : S25600000.Idx → F .f32) (O : CellTallies nD τ sig (HIx 1)) (W W' : Waits sig (HIx 1)) (hW : Recs W W') :
    iprop(Transfers.MayWaits (thr d i) (none : HIx 1) O ∗ fly1 d i X k.val ∗ idle0 d i ∗ out1 d i WTS X O0 (k.val / 2)
        ∗ (if k.val + 1 < nT i then xP d i X (k.val + 1) else iprop(emp)) ∗ oP d i O0 k.val ∗ owes (thr d i) O W')
      ⊢ wp (M := 𝕄) frame (wpE (defs₀ (F := F)) 𝒱₀ (thr d i) none) Set.univ (outerBody i v1 v21 v26 v27 v32 v37 v42 v47 v52 v57 v62 v67 v72 v77 v82 v87 v92 v97 v102 v107 v112 v117 v122 v127 v132 v137 v142 v147 v152 v154 v156 k ())
          fun _ => iprop(Transfers.MayWaits (thr d i) (none : HIx 1) O ∗ in0 d i X (k.val + 1) ∗ idle1 d i ∗ out1 d i WTS X O0 (k.val / 2 + 1)
            ∗ xP d i X k.val ∗ (if 2 ≤ k.val then oP d i (res WTS X) (k.val - 2) else iprop(emp))
            ∗ ∃ W'', ⌜Recs W W''⌝ ∗ owes (thr d i) O W'') := by
  have hlt := k.isLt
  have h40 : k.val < 40 := lt_of_lt_of_le k.isLt (k0_t1_abs i).2.1
  have h5 : k0_cond5 i k = 1#1 := (cond5_iff i k).mpr hk
  have h2 : ¬ k0_cond2 i k = 1#1 := fun h => by have := (cond2_iff i k).mp h; omega
  have hb := bk_lt i k
  have hge := ge2_iff ⟨k.val, h40⟩
  unfold outerBody k0_t1_body fly1 idle0
  iintro ⟨Hmw, HF, ⟨⟨%f1, Hx1⟩, Hs8⟩, Hout, Hxn, Ho, HO⟩
  have hW8 := hW.insert s9
  have hoff : k0_off8 i k = ![3840 * bk i (k.val + 1)] := by rw [k0_off8_eq]; unfold bk; congr 1; omega
  obtain ⟨q, hq⟩ : ∃ q, k.val = 2 * q + 1 := ⟨k.val / 2, by omega⟩
  have hq' : k.val / 2 = q := by omega
  rw [hq']
  have hex : ∀ h3 : k0_cond6 i k = 1#1, xP (F := F) d i X (k.val + 1)
      = (((xM).slice (Rect.unit (s := S4800000) (k0_off8 i k) S3840.size (k0_off8_inb i k h5 h3)) (fun _ => rfl)).view.loc (thr d i)
        ↦[((xM).slice (Rect.unit (s := S4800000) (k0_off8 i k) S3840.size (k0_off8_inb i k h5 h3)) (fun _ => rfl)).view.set]{fullShare} X) := by
    intro h3
    rw [set_xM (3840 * bk i (k.val + 1)) (by rw [k0_off8_eq]; unfold bk; congr 1; omega)]
    rfl
  have heo : oP (F := F) d i O0 k.val = iprop((((oM).slice (Rect.unit (s := S25600000) (k0_off12 i k) S10240.size (k0_off12_inb i k h5)) (fun _ => rfl)).view.loc (thr d i)
        ↦[((oM).slice (Rect.unit (s := S25600000) (k0_off12 i k) S10240.size (k0_off12_inb i k h5)) (fun _ => rfl)).view.set]{fullShare} O0)
      ∗ (((oM).slice (Rect.unit (s := S25600000) (k0_off13 i k) S10240.size (k0_off13_inb i k h5)) (fun _ => rfl)).view.loc (thr d i)
        ↦[((oM).slice (Rect.unit (s := S25600000) (k0_off13 i k) S10240.size (k0_off13_inb i k h5)) (fun _ => rfl)).view.set]{fullShare} O0)) := by
    rw [set_oM (10240 * bk i k.val) (by rw [k0_off12_eq]; unfold bk; congr 1; omega),
      set_oM (12800000 + 10240 * bk i k.val) (by rw [k0_off13_eq]; unfold bk; congr 1; omega)]
    rfl
  ihave Ho' := (Entails.of_eq heo) $$ Ho
  icases Ho' with ⟨Hoa, Hob⟩
  rcases q with _ | q <;> by_cases hn : k.val + 1 < nT i
  on_goal 1 =>
    have h3 := (cond6_iff i k).mpr hn
    have hv : ¬ _ := fun h => absurd (hge.mp h) (by show ¬ 2 ≤ k.val; omega)
    ihave Hxn' := (Entails.of_eq ((if_pos hn).trans (hex h3))) $$ Hxn
    ihave Hout' := (Entails.of_eq (out1_zero (F := F) d i WTS X O0)) $$ Hout
    icases Hout' with ⟨⟨%ga, Ha⟩, ⟨%gb, Hb⟩, Hs10⟩
    sl_exec (disch := first | exact h5 | exact h3 | exact hv | exact View.amount_pos _ _ (show 0 < S3840.numel by decide))
    ihave Hin := (fly0_intro (F := F) d i X (k.val + 1) (bk_lt i ⟨k.val + 1, hn⟩) hoff f1) $$ [Hs8]
    · iexact Hs8
    ihave Hin := (Entails.of_eq (show _ = in0 (F := F) d i X (k.val + 1) from (if_pos hn).symm)) $$ Hin
    ihave Hfin := (Entails.of_eq (show iprop(emp) = (if 2 ≤ k.val then oP (F := F) d i (res WTS X) (k.val - 2) else iprop(emp)) from (if_neg (by omega)).symm)) $$ []
    · iempintro
    ihave HO := (owes_recs (F := F) d i hW8) $$ [HO]
    · iexact HO
  on_goal 2 =>
    have h3 := fun h => hn ((cond6_iff i k).mp h)
    have hv : ¬ _ := fun h => absurd (hge.mp h) (by show ¬ 2 ≤ k.val; omega)
    ihave Hout' := (Entails.of_eq (out1_zero (F := F) d i WTS X O0)) $$ Hout
    icases Hout' with ⟨⟨%ga, Ha⟩, ⟨%gb, Hb⟩, Hs10⟩
    sl_exec (disch := first | exact h5 | exact h3 | exact hv | exact View.amount_pos _ _ (show 0 < S3840.numel by decide))
    ihave Hin := (Entails.of_eq (show _ = in0 (F := F) d i X (k.val + 1) from (if_neg hn).symm)) $$ [Hx1 Hs8]
    · unfold idle0
      isplitl [Hx1]
      · iexists _; iexact Hx1
      · iexact Hs8
    ihave Hfin := (Entails.of_eq (show iprop(emp) = (if 2 ≤ k.val then oP (F := F) d i (res WTS X) (k.val - 2) else iprop(emp)) from (if_neg (by omega)).symm)) $$ []
    · iempintro
    ihave HO := (owes_recs (F := F) d i hW8) $$ [HO]
    · iexact HO
  on_goal 3 =>
    have h3 := (cond6_iff i k).mpr hn
    have hv := hge.mpr (by show 2 ≤ k.val; omega)
    ihave Hxn' := (Entails.of_eq ((if_pos hn).trans (hex h3))) $$ Hxn
    ihave Hout' := (Entails.of_eq (out1_succ (F := F) d i WTS X O0 q)) $$ Hout
    icases Hout' with ⟨%t, %ht5, %ht, Hs10⟩
    sl_exec (disch := first | exact h5 | exact h3 | exact hv | exact View.amount_pos _ _ (show 0 < S3840.numel by decide))
    ihave Hin := (fly0_intro (F := F) d i X (k.val + 1) (bk_lt i ⟨k.val + 1, hn⟩) hoff f1) $$ [Hs8]
    · iexact Hs8
    ihave Hin := (Entails.of_eq (show _ = in0 (F := F) d i X (k.val + 1) from (if_pos hn).symm)) $$ Hin
    have ht' : t.val = k.val - 2 := by omega
    have ht6 : k0_off12 i t = ![10240 * bk i t.val] := by rw [k0_off12_eq]; unfold bk; congr 1; omega
    have ht7 : k0_off13 i t = ![12800000 + 10240 * bk i t.val] := by rw [k0_off13_eq]; unfold bk; congr 1; omega
    ihave Hfin := (Entails.of_eq ((landed (F := F) d i WTS X t.val (bk_lt i t) (n := k0_off12_inb i t ht5) (n' := k0_off13_inb i t ht5) ht6 ht7 _ _ _ _ rfl rfl).trans (show _ = (if 2 ≤ k.val then oP (F := F) d i (res WTS X) (k.val - 2) else iprop(emp)) from
        (congrArg (oP d i (res WTS X)) ht').trans (if_pos (by omega)).symm))) $$ [Hs10_dst0 Hs10_dst1]
    · isplitl [Hs10_dst0]
      · iexact Hs10_dst0
      · iexact Hs10_dst1
    ihave Ha := (Entails.of_eq (whole_a1 (F := F) d i _)) $$ Hs10_src0
    ihave Hb := (Entails.of_eq (whole_b1 (F := F) d i _)) $$ Hs10_src1
    generalize outAt WTS (blk X (bk i t.val)) 0 = ga
    generalize outAt WTS (blk X (bk i t.val)) 1 = gb
    ihave HO := (owes_recs (F := F) d i ((hW8.insert s11).insert s11)) $$ [HO]
    · iexact HO
  on_goal 4 =>
    have h3 := fun h => hn ((cond6_iff i k).mp h)
    have hv := hge.mpr (by show 2 ≤ k.val; omega)
    ihave Hout' := (Entails.of_eq (out1_succ (F := F) d i WTS X O0 q)) $$ Hout
    icases Hout' with ⟨%t, %ht5, %ht, Hs10⟩
    sl_exec (disch := first | exact h5 | exact h3 | exact hv | exact View.amount_pos _ _ (show 0 < S3840.numel by decide))
    ihave Hin := (Entails.of_eq (show _ = in0 (F := F) d i X (k.val + 1) from (if_neg hn).symm)) $$ [Hx1 Hs8]
    · unfold idle0
      isplitl [Hx1]
      · iexists _; iexact Hx1
      · iexact Hs8
    have ht' : t.val = k.val - 2 := by omega
    have ht6 : k0_off12 i t = ![10240 * bk i t.val] := by rw [k0_off12_eq]; unfold bk; congr 1; omega
    have ht7 : k0_off13 i t = ![12800000 + 10240 * bk i t.val] := by rw [k0_off13_eq]; unfold bk; congr 1; omega
    ihave Hfin := (Entails.of_eq ((landed (F := F) d i WTS X t.val (bk_lt i t) (n := k0_off12_inb i t ht5) (n' := k0_off13_inb i t ht5) ht6 ht7 _ _ _ _ rfl rfl).trans (show _ = (if 2 ≤ k.val then oP (F := F) d i (res WTS X) (k.val - 2) else iprop(emp)) from
        (congrArg (oP d i (res WTS X)) ht').trans (if_pos (by omega)).symm))) $$ [Hs10_dst0 Hs10_dst1]
    · isplitl [Hs10_dst0]
      · iexact Hs10_dst0
      · iexact Hs10_dst1
    ihave Ha := (Entails.of_eq (whole_a1 (F := F) d i _)) $$ Hs10_src0
    ihave Hb := (Entails.of_eq (whole_b1 (F := F) d i _)) $$ Hs10_src1
    generalize outAt WTS (blk X (bk i t.val)) 0 = ga
    generalize outAt WTS (blk X (bk i t.val)) 1 = gb
    ihave HO := (owes_recs (F := F) d i ((hW8.insert s11).insert s11)) $$ [HO]
    · iexact HO
  all_goals
    icases HO with ⟨%W2, %hW2, HO⟩
    sl_for (inner1 d i (blk X (bk i k.val)) ga gb WTS) $$ [HF_dst Ha Hb]
    case region =>
      intro kk u
      exact odd_trip d i v1 v21 v26 v27 v32 v37 v42 v47 v52 v57 v62 v67 v72 v77 v82 v87 v92 v97 v102 v107 v112 v117 v122 v127 v132 v137 v142 v147 v152 v154 v156 k h5 kk (blk X (bk i k.val)) ga gb
    · unfold inner1
      rw [upTo_zero, upTo_zero]
      isplitl [HF_dst]
      · iexact HF_dst
      isplitl [Ha]
      · iexact Ha
      · iexact Hb
    iintro %_ HI
    unfold inner1
    rw [show Scf.trips k0_t3_loop.lb k0_t3_loop.ub k0_t3_loop.st = 80 from by decide, upTo_all, upTo_all]
    icases HI with ⟨Hx, Ha, Hb⟩
    imod (alloc1 (F := F) d i k h5 O0 (outAt WTS (blk X (bk i k.val)) 0) (outAt WTS (blk X (bk i k.val)) 1)) $$ [Hs10] with HB
    · iexact Hs10
    sl_exec (disch := first | exact h2 | exact View.amount_pos _ _ (show 0 < S10240.numel by decide))
    sl_step
    isplitl [Hmw]
    · iexact Hmw
    isplitl [Hin]
    · iexact Hin
    isplitl [Hx HF]
    · unfold idle1
      isplitl [Hx]
      · iexists _; iexact Hx
      · iexact HF
    isplitl [HB]
    · iapply (Entails.of_eq (out1_succ (F := F) d i WTS X O0 _).symm)
      iexists k, h5
      isplitr
      · ipureintro; exact hq
      · iexact HB
    isplitl [HF_src]
    · unfold xP
      iexact HF_src
    isplitl [Hfin]
    · iexact Hfin
    iexists W2
    isplitr
    · ipureintro; exact hW2
    · iexact HO

end Step

end Cert.Proof.KernelIdeal
-- ==== Proof.IdealLoop.lean ====
/-
  What a tile holds between two trips of its outer loop: the input blocks not on their way in, the output blocks not yet
  begun, the output blocks that have landed, and the four groups of buffers in the state their parity says. One trip
  carries it from `k` to `k + 1`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.IdealInner
public import Idealize.ShloMosaic.Lib.Batch
public import Idealize.ShloMosaic.Lib.Ring
public import proofs.«01_k».proof.Proof.IdealOuter

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xM" => (Memref.whole Cert.KernelIdeal.main_v3_scv : Memref Cert.KernelIdeal.sig Kind.scVector Space.hbm Cert.KernelIdeal.S4800000 EltTy.f32)
local notation "clmM" => (Memref.whole Cert.KernelIdeal.main_v5_scv : Memref Cert.KernelIdeal.sig Kind.scVector Space.hbm Cert.KernelIdeal.S32 EltTy.f32)
local notation "nsM" => (Memref.whole Cert.KernelIdeal.main_arg4_scv : Memref Cert.KernelIdeal.sig Kind.scVector Space.hbm Cert.KernelIdeal.S16 EltTy.f32)
local notation "oM" => (Memref.whole Cert.KernelIdeal.main_v6_scv : Memref Cert.KernelIdeal.sig Kind.scVector Space.hbm Cert.KernelIdeal.S25600000 EltTy.f32)
local notation "x0M" => (Memref.whole Cert.KernelIdeal.cc0_scratch0 : Memref Cert.KernelIdeal.sig Kind.scVector Space.vmem Cert.KernelIdeal.S3840 EltTy.f32)
local notation "x1M" => (Memref.whole Cert.KernelIdeal.cc0_scratch1 : Memref Cert.KernelIdeal.sig Kind.scVector Space.vmem Cert.KernelIdeal.S3840 EltTy.f32)
local notation "a0M" => (Memref.whole Cert.KernelIdeal.cc0_scratch2 : Memref Cert.KernelIdeal.sig Kind.scVector Space.vmem Cert.KernelIdeal.S10240 EltTy.f32)
local notation "b0M" => (Memref.whole Cert.KernelIdeal.cc0_scratch3 : Memref Cert.KernelIdeal.sig Kind.scVector Space.vmem Cert.KernelIdeal.S10240 EltTy.f32)
local notation "a1M" => (Memref.whole Cert.KernelIdeal.cc0_scratch4 : Memref Cert.KernelIdeal.sig Kind.scVector Space.vmem Cert.KernelIdeal.S10240 EltTy.f32)
local notation "b1M" => (Memref.whole Cert.KernelIdeal.cc0_scratch5 : Memref Cert.KernelIdeal.sig Kind.scVector Space.vmem Cert.KernelIdeal.S10240 EltTy.f32)
local notation "cM" => (Memref.whole Cert.KernelIdeal.cc0_scratch6 : Memref Cert.KernelIdeal.sig Kind.scVector Space.vmem Cert.KernelIdeal.S32 EltTy.f32)
local notation "nM" => (Memref.whole Cert.KernelIdeal.cc0_scratch7 : Memref Cert.KernelIdeal.sig Kind.scVector Space.vmem Cert.KernelIdeal.S16 EltTy.f32)

local notation "s8" => (SemLoc.dma (SemArray.sem cc0_scratch8) : SemLoc Cert.KernelIdeal.sig)
local notation "s9" => (SemLoc.dma (SemArray.sem cc0_scratch9) : SemLoc Cert.KernelIdeal.sig)
local notation "s10" => (SemLoc.dma (SemArray.sem cc0_scratch10) : SemLoc Cert.KernelIdeal.sig)
local notation "s11" => (SemLoc.dma (SemArray.sem cc0_scratch11) : SemLoc Cert.KernelIdeal.sig)

section Loop

variable [FloatOps F] [∀ e, Nonempty (Elt F e)] (d : Dev nD) (i : grid0.Coords)

/-- The input buffers before trip `k`: the one of `k`'s parity has block `k` on its way, the other is at rest. -/
def stage (X : S4800000.Idx → F .f32) (k : ℕ) : sProp 𝕄 :=
  if k % 2 = 0 then iprop(in0 d i X k ∗ idle1 d i) else iprop(in1 d i X k ∗ idle0 d i)

/-- What the tile holds before trip `k`. -/
def outer (w : Fin 28 → F .f32) (X : S4800000.Idx → F .f32) (O0 : S25600000.Idx → F .f32) (O : CellTallies nD τ sig (HIx 1))
    (W : Waits sig (HIx 1)) (k : ℕ) (_ : Unit) : sProp 𝕄 :=
  iprop(Transfers.MayWaits (thr d i) (none : HIx 1) O ∗ stage d i X k ∗ out0 d i w X O0 ((k + 1) / 2) ∗ out1 d i w X O0 (k / 2)
    ∗ (bigSep ((Finset.range (nT i)).erase k) fun j => xP d i X j)
    ∗ (bigSep (Finset.range (k - 2)) fun j => oP d i (res w X) j)
    ∗ (bigSep (Finset.Ico k (nT i)) fun j => oP d i O0 j)
    ∗ ∃ W', ⌜Recs W W'⌝ ∗ owes (thr d i) O W')

omit [FloatOps F] [∀ e, Nonempty (Elt F e)] in
/-- The next block is among the blocks held, if there is a next block. -/
theorem take_next (Φ : ℕ → sProp 𝕄) (k n : ℕ) :
    (bigSep ((Finset.range n).erase k) Φ)
      = iprop((if k + 1 < n then Φ (k + 1) else iprop(emp)) ∗ bigSep (((Finset.range n).erase k).erase (k + 1)) Φ) := by
  by_cases h : k + 1 < n
  · rw [if_pos h]
    exact SparseCore.bigSep_erase' (by simp [h])
  · rw [if_neg h, Finset.erase_eq_of_notMem (a := k + 1) (by simp; omega)]
    exact (emp_sep_eq' _).symm

omit [FloatOps F] [∀ e, Nonempty (Elt F e)] in
/-- Giving block `k` back leaves all blocks but the next. -/
theorem put_back (Φ : ℕ → sProp 𝕄) (k n : ℕ) (hk : k < n) :
    (bigSep ((Finset.range n).erase (k + 1)) Φ) = iprop(Φ k ∗ bigSep (((Finset.range n).erase k).erase (k + 1)) Φ) := by
  rw [Finset.erase_right_comm]
  exact SparseCore.bigSep_erase' (by simp [hk])

omit [FloatOps F] [∀ e, Nonempty (Elt F e)] in
theorem take_first (Φ : ℕ → sProp 𝕄) (k n : ℕ) (hk : k < n) :
    (bigSep (Finset.Ico k n) Φ) = iprop(Φ k ∗ bigSep (Finset.Ico (k + 1) n) Φ) := by
  rw [SparseCore.bigSep_erase' (Finset.left_mem_Ico.mpr hk), show (Finset.Ico k n).erase k = Finset.Ico (k + 1) n from by
    ext x; simp only [Finset.mem_erase, Finset.mem_Ico]; omega]

omit [FloatOps F] [∀ e, Nonempty (Elt F e)] in
theorem put_done (Φ : ℕ → sProp 𝕄) (k : ℕ) :
    (bigSep (Finset.range (k + 1 - 2)) Φ)
      = iprop((if 2 ≤ k then Φ (k - 2) else iprop(emp)) ∗ bigSep (Finset.range (k - 2)) Φ) := by
  by_cases h : 2 ≤ k
  · rw [if_pos h, show k + 1 - 2 = (k - 2) + 1 from by omega, Finset.range_add_one]
    exact SparseCore.bigSep_insert' (by simp)
  · rw [if_neg h, show k + 1 - 2 = k - 2 from by omega]
    exact (emp_sep_eq' _).symm

variable (v1 v21 : BitVec 32) (v26 v27 : Vec F S16 .f32)
variable (v32 v37 v42 v47 v52 v57 v62 v67 v72 v77 v82 v87 v92 v97 v102 v107 v112 v117 v122 v127 v132 v137 v142 v147 v152 v154 v156 : F .f32)

local notation "WTS" => wts v26 v27 v32 v37 v42 v47 v52 v57 v62 v67 v72 v77 v82 v87 v92 v97 v102 v107 v112 v117 v122 v127 v132 v137 v142 v147 v152 v154 v156

/-- One trip of the outer loop. -/
theorem outer_trip (k : Fin (k0_t1_loop i).trips) (X : S4800000.Idx → F .f32) (O0 : S25600000.Idx → F .f32)
    (O : CellTallies nD τ sig (HIx 1)) (W : Waits sig (HIx 1)) :
    outer d i WTS X O0 O W k.val ()
      ⊢ wp (M := 𝕄) frame (wpE (defs₀ (F := F)) 𝒱₀ (thr d i) none) Set.univ (outerBody i v1 v21 v26 v27 v32 v37 v42 v47 v52 v57 v62 v67 v72 v77 v82 v87 v92 v97 v102 v107 v112 v117 v122 v127 v132 v137 v142 v147 v152 v154 v156 k ())
          fun u => outer d i WTS X O0 O W (k.val + 1) u := by
  have hlt : k.val < nT i := k.isLt
  unfold outer stage
  rw [take_next, take_first _ _ _ hlt, put_back _ _ _ hlt, put_done]
  iintro ⟨Hmw, Hst, Ho0, Ho1, ⟨Hxn, Hxs⟩, Hdone, ⟨Ho, Hrest⟩, %W', %hW', HO⟩
  rcases Nat.mod_two_eq_zero_or_one k.val with hk | hk
  on_goal 1 =>
    have e0 : (k.val + 1) / 2 = k.val / 2 := by omega
    have e1 : (k.val + 1 + 1) / 2 = k.val / 2 + 1 := by omega
    have hs := even_step (F := F) d i v1 v21 v26 v27 v32 v37 v42 v47 v52 v57 v62 v67 v72 v77 v82 v87 v92 v97 v102 v107 v112 v117 v122 v127 v132 v137 v142 v147 v152 v154 v156 k hk X O0 O W W' hW'
    ihave Hst := (Entails.of_eq (if_pos hk)) $$ Hst
    icases Hst with ⟨Hin, Hid⟩
    unfold in0
    ihave Hin := (Entails.of_eq (if_pos hlt)) $$ Hin
    ihave Ha := (Entails.of_eq (congrArg (out0 (F := F) d i WTS X O0) e0)) $$ Ho0
    ihave Hb := (Entails.of_eq (congrArg (out1 (F := F) d i WTS X O0) e0.symm)) $$ Ho1
  on_goal 2 =>
    have e0 : (k.val + 1) / 2 = k.val / 2 + 1 := by omega
    have e1 : (k.val + 1 + 1) / 2 = (k.val + 1) / 2 := by omega
    have hs := odd_step (F := F) d i v1 v21 v26 v27 v32 v37 v42 v47 v52 v57 v62 v67 v72 v77 v82 v87 v92 v97 v102 v107 v112 v117 v122 v127 v132 v137 v142 v147 v152 v154 v156 k hk X O0 O W W' hW'
    ihave Hst := (Entails.of_eq (if_neg (show ¬ k.val % 2 = 0 by omega))) $$ Hst
    icases Hst with ⟨Hin, Hid⟩
    unfold in1
    ihave Hin := (Entails.of_eq (if_pos hlt)) $$ Hin
    irename Ho1 => Ha
    irename Ho0 => Hb
  all_goals
    iapply (wp_wand_r Idealize.ShloMosaic.frame (wpE (defs₀ (F := F)) 𝒱₀ (thr d i) none) Set.univ)
    isplitl [Hmw Hin Hid Ha Hxn Ho HO]
    · iapply hs
      isplitl [Hmw]; · iexact Hmw
      isplitl [Hin]; · iexact Hin
      isplitl [Hid]; · iexact Hid
      isplitl [Ha]; · iexact Ha
      isplitl [Hxn]; · iexact Hxn
      isplitl [Ho]; · iexact Ho
      iexact HO
    iintro %_ ⟨Hmw, Hin, Hid, Ha, Hx, Hr, HO⟩
    isplitl [Hmw]; · iexact Hmw
    isplitl [Hin Hid]
    · first
        | (iapply (Entails.of_eq (if_neg (show ¬ (k.val + 1) % 2 = 0 by omega)).symm)
           isplitl [Hin]; · iexact Hin
           iexact Hid)
        | (iapply (Entails.of_eq (if_pos (show (k.val + 1) % 2 = 0 by omega)).symm)
           isplitl [Hin]; · iexact Hin
           iexact Hid)
    first
      | (isplitl [Ha]
         · iapply (Entails.of_eq (congrArg (out0 (F := F) d i WTS X O0) e1.symm)); iexact Ha
         isplitl [Hb]; · iexact Hb)
      | (isplitl [Hb]
         · iapply (Entails.of_eq (congrArg (out0 (F := F) d i WTS X O0) e1.symm)); iexact Hb
         isplitl [Ha]
         · iapply (Entails.of_eq (congrArg (out1 (F := F) d i WTS X O0) e0.symm)); iexact Ha)
    isplitl [Hx Hxs]
    · isplitl [Hx]; · iexact Hx
      iexact Hxs
    isplitl [Hr Hdone]
    · isplitl [Hr]; · iexact Hr
      iexact Hdone
    isplitl [Hrest]; · iexact Hrest
    iexact HO

end Loop

end Cert.Proof.KernelIdeal
-- ==== Proof.IdealTile.lean ====
/-
  One tile's whole task: the first block on its way in, the two tables fetched and the twenty-eight weights formed, the
  outer loop, and the waits for the last two blocks' results.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.IdealInner
public import Idealize.ShloMosaic.Lib.Batch
public import Idealize.ShloMosaic.Lib.Ring
public import proofs.«01_k».proof.Proof.IdealOuter
public import proofs.«01_k».proof.Proof.IdealLoop

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xM" => (Memref.whole Cert.KernelIdeal.main_v3_scv : Memref Cert.KernelIdeal.sig Kind.scVector Space.hbm Cert.KernelIdeal.S4800000 EltTy.f32)
local notation "clmM" => (Memref.whole Cert.KernelIdeal.main_v5_scv : Memref Cert.KernelIdeal.sig Kind.scVector Space.hbm Cert.KernelIdeal.S32 EltTy.f32)
local notation "nsM" => (Memref.whole Cert.KernelIdeal.main_arg4_scv : Memref Cert.KernelIdeal.sig Kind.scVector Space.hbm Cert.KernelIdeal.S16 EltTy.f32)
local notation "oM" => (Memref.whole Cert.KernelIdeal.main_v6_scv : Memref Cert.KernelIdeal.sig Kind.scVector Space.hbm Cert.KernelIdeal.S25600000 EltTy.f32)
local notation "x0M" => (Memref.whole Cert.KernelIdeal.cc0_scratch0 : Memref Cert.KernelIdeal.sig Kind.scVector Space.vmem Cert.KernelIdeal.S3840 EltTy.f32)
local notation "x1M" => (Memref.whole Cert.KernelIdeal.cc0_scratch1 : Memref Cert.KernelIdeal.sig Kind.scVector Space.vmem Cert.KernelIdeal.S3840 EltTy.f32)
local notation "a0M" => (Memref.whole Cert.KernelIdeal.cc0_scratch2 : Memref Cert.KernelIdeal.sig Kind.scVector Space.vmem Cert.KernelIdeal.S10240 EltTy.f32)
local notation "b0M" => (Memref.whole Cert.KernelIdeal.cc0_scratch3 : Memref Cert.KernelIdeal.sig Kind.scVector Space.vmem Cert.KernelIdeal.S10240 EltTy.f32)
local notation "a1M" => (Memref.whole Cert.KernelIdeal.cc0_scratch4 : Memref Cert.KernelIdeal.sig Kind.scVector Space.vmem Cert.KernelIdeal.S10240 EltTy.f32)
local notation "b1M" => (Memref.whole Cert.KernelIdeal.cc0_scratch5 : Memref Cert.KernelIdeal.sig Kind.scVector Space.vmem Cert.KernelIdeal.S10240 EltTy.f32)
local notation "cM" => (Memref.whole Cert.KernelIdeal.cc0_scratch6 : Memref Cert.KernelIdeal.sig Kind.scVector Space.vmem Cert.KernelIdeal.S32 EltTy.f32)
local notation "nM" => (Memref.whole Cert.KernelIdeal.cc0_scratch7 : Memref Cert.KernelIdeal.sig Kind.scVector Space.vmem Cert.KernelIdeal.S16 EltTy.f32)

local notation "s8" => (SemLoc.dma (SemArray.sem cc0_scratch8) : SemLoc Cert.KernelIdeal.sig)
local notation "s9" => (SemLoc.dma (SemArray.sem cc0_scratch9) : SemLoc Cert.KernelIdeal.sig)
local notation "s10" => (SemLoc.dma (SemArray.sem cc0_scratch10) : SemLoc Cert.KernelIdeal.sig)
local notation "s11" => (SemLoc.dma (SemArray.sem cc0_scratch11) : SemLoc Cert.KernelIdeal.sig)

/-! ## The weights -/

/-- The output slot that weight `t` belongs to. -/
def slot : Fin 28 → ℕ := ![0, 1, 2, 3, 4, 5, 6, 6, 6, 7, 8, 8, 9, 9, 10, 11, 11, 11, 12, 12, 12, 13, 13, 13, 14, 14, 15, 15]

/-- Weight `t`: coefficient `t` times the normalisation of its slot. -/
def kw [FloatOps F] (C : S32.Idx → F .f32) (N : S16.Idx → F .f32) (t : Fin 28) : F .f32 :=
  Scalar.mulf (F := F) (φ := .f32) (C (ix 32 t.val)) (N (ix 16 (slot t)))

/-- The first and the second sixteen coefficients, as the tile reads them. -/
def vA (C : S32.Idx → F .f32) : Vec F S16 .f32 := fun j => C (ix 32 (j 0).val)
def vB (C : S32.Idx → F .f32) : Vec F S16 .f32 := fun j => C (ix 32 (16 + (j 0).val))

section Tile

variable [FloatOps F] [∀ e, Nonempty (Elt F e)] (d : Dev nD) (i : grid0.Coords)

local notation "r0" => (SemLoc.dma (SemArray.sem cc0_scoped0) : SemLoc Cert.KernelIdeal.sig)
local notation "r1" => (SemLoc.dma (SemArray.sem cc0_scoped1) : SemLoc Cert.KernelIdeal.sig)

theorem nT_cases : ∀ i : grid0.Coords, nT i = 39 ∨ nT i = 40 := by decide +kernel
theorem nT_pos (i : grid0.Coords) : 0 < nT i := by rcases nT_cases i with h | h <;> omega
theorem cond1_true : ∀ i : grid0.Coords, k0_cond1 i = 1#1 := by decide +kernel

omit [FloatOps F] [∀ e, Nonempty (Elt F e)] in
theorem landed_cM (f C : S32.Idx → F .f32) :
    View.write (Elt F) (cM).view f (ReadAs.same.apply ((clmM).view.read (Elt F) C)) Finset.univ = C := by
  rw [View.read_whole]; exact View.write_whole_univ _ _ _
omit [FloatOps F] [∀ e, Nonempty (Elt F e)] in
theorem landed_nM (f N : S16.Idx → F .f32) :
    View.write (Elt F) (nM).view f (ReadAs.same.apply ((nsM).view.read (Elt F) N)) Finset.univ = N := by
  rw [View.read_whole]; exact View.write_whole_univ _ _ _

omit [∀ e, Nonempty (Elt F e)] in
theorem part13_value {v1 t t' : BitVec 32} {a a' b b' c c' : Vec F S16 .f32} (ht : t = t') (ha : a = a') (hb : b = b') (hc : c = c') :
    (⟨v1, t, a, b, c, k0_pay145 a c, k0_pay146 a, k0_pay147 c⟩ : Σ' (_ : BitVec 32) (_ : BitVec 32) (_ : Vec F S16 .f32) (_ : Vec F S16 .f32)
        (_ : Vec F S16 .f32) (_ : F .f32) (_ : F .f32), F .f32)
      = ⟨v1, t', a', b', c', k0_pay145 a' c', k0_pay146 a', k0_pay147 c'⟩ := by
  subst ht ha hb hc; rfl

set_option maxHeartbeats 1000000 in
/-- The first block's copy issued, the tables fetched and read. -/
theorem part13_run (X : S4800000.Idx → F .f32) (C : S32.Idx → F .f32) (N : S16.Idx → F .f32) (qc qn : PosShare TreeShare)
    (O : CellTallies nD τ sig (HIx 1)) (W : Waits sig (HIx 1)) :
    iprop(Transfers.MayWaits (thr d i) (none : HIx 1) O ∗ xP d i X 0 ∗ idle0 d i
        ∗ ((clmM).view.loc (thr d i) ↦{qc} C) ∗ ((nsM).view.loc (thr d i) ↦{qn} N)
        ∗ (∃ f, (cM).view.loc (thr d i) ↦{fullShare} f) ∗ (∃ f, (nM).view.loc (thr d i) ↦{fullShare} f)
        ∗ semVal (thr d i, r0) 0 ∗ semVal (thr d i, r1) 0 ∗ owes (thr d i) O W)
      ⊢ wp (M := 𝕄) frame (wpE (defs₀ (F := F)) 𝒱₀ (thr d i) none) Set.univ
          (k0_part13 (F := F) i xM (Memref.isWhole_whole _) clmM (Memref.isWhole_whole _) nsM (Memref.isWhole_whole _) oM (Memref.isWhole_whole _)
            x0M (Memref.isWhole_whole _) x1M (Memref.isWhole_whole _) a0M (Memref.isWhole_whole _) b0M (Memref.isWhole_whole _)
            a1M (Memref.isWhole_whole _) b1M (Memref.isWhole_whole _) cM (Memref.isWhole_whole _) nM (Memref.isWhole_whole _)
            cc0_scratch8 cc0_scratch9 cc0_scratch10 cc0_scratch11 cc0_scoped0 cc0_scoped1)
          fun r => iprop(⌜∃ v1, r = ⟨v1, BitVec.ofNat 32 (nT i), vA C, vB C, N, k0_pay145 (vA C) N, k0_pay146 (vA C), k0_pay147 N⟩⌝
            ∗ Transfers.MayWaits (thr d i) (none : HIx 1) O ∗ fly0 d i X 0
            ∗ ((clmM).view.loc (thr d i) ↦{qc} C) ∗ ((nsM).view.loc (thr d i) ↦{qn} N)
            ∗ (∃ f, (cM).view.loc (thr d i) ↦{fullShare} f) ∗ (∃ f, (nM).view.loc (thr d i) ↦{fullShare} f)
            ∗ semVal (thr d i, r0) 0 ∗ semVal (thr d i, r1) 0 ∗ ∃ W', ⌜Recs W W'⌝ ∗ owes (thr d i) O W') := by
  rw [k0_part13_eq_skeleton]
  unfold k0_part13_skel idle0
  iintro ⟨Hmw, Hx, ⟨⟨%f0, Hx0⟩, Hs8⟩, Hc, Hn, ⟨%fc, HcM⟩, ⟨%fn, HnM⟩, Hr0, Hr1, HO⟩
  have h1 := cond1_true i
  have hex : xP (F := F) d i X 0
      = (((xM).slice (Rect.unit (s := S4800000) (k0_off1 i) S3840.size (k0_off1_inb i h1)) (fun _ => rfl)).view.loc (thr d i)
        ↦[((xM).slice (Rect.unit (s := S4800000) (k0_off1 i) S3840.size (k0_off1_inb i h1)) (fun _ => rfl)).view.set]{fullShare} X) := by
    rw [set_xM (3840 * bk i 0) (by rw [k0_off1_eq]; unfold bk; congr 1; omega)]
    rfl
  ihave Hx' := (Entails.of_eq hex) $$ Hx
  sl_exec (disch := first | exact h1 | exact View.amount_pos _ _ (show 0 < S3840.numel by decide) | exact View.amount_pos _ _ (show 0 < S32.numel by decide) | exact View.amount_pos _ _ (show 0 < S16.numel by decide))
  sl_step
  isplitr
  · ipureintro
    refine ⟨_, part13_value ?_ ?_ ?_ ?_⟩
    · clear hex h1 f0 fc fn
      revert i
      decide +kernel
    · exact (congrArg _ (landed_cM fc C)).trans (funext fun j => congrArg C (idx_ext (by
        have : (j 0).val < 16 := (j 0).isLt
        rw [ix_val, Nat.mod_eq_of_lt (by omega)]
        show 0 + 1 * (j 0).val = _
        omega)))
    · exact (congrArg _ (landed_cM fc C)).trans (funext fun j => congrArg C (idx_ext (by
        have : (j 0).val < 16 := (j 0).isLt
        rw [ix_val, Nat.mod_eq_of_lt (by omega)]
        show 16 + 1 * (j 0).val = _
        omega)))
    · exact (congrArg _ (landed_nM fn N)).trans (funext fun j => congrArg N (idx_ext (by
        show 0 + 1 * (j 0).val = _
        omega)))
  isplitl [Hmw]; · iexact Hmw
  isplitl [Hs8]
  · iapply (fly0_intro (F := F) d i X 0 (bk_lt i ⟨0, nT_pos i⟩) (o := k0_off1 i) (n := k0_off1_inb i h1)
      (by rw [k0_off1_eq]; unfold bk; congr 1; omega) f0)
    iexact Hs8
  isplitl [Hc]; · iexact Hc
  isplitl [Hn]; · iexact Hn
  isplitl [HcM]
  · iexists _; iexact HcM
  isplitl [HnM]
  · iexists _; iexact HnM
  isplitl [Hr0]; · iexact Hr0
  isplitl [Hr1]; · iexact Hr1
  iapply (owes_recs (F := F) d i (((show Recs W W from fun p hp => .inl hp).insert r0).insert r1))
  iexact HO

/-- The weights as the tile forms them are `kw`. -/
theorem wts_kw (C : S32.Idx → F .f32) (N : S16.Idx → F .f32) :
    wts (vB C) N (k0_pay145 (vA C) N) (k0_pay148 (k0_pay146 (vA C)) (k0_pay147 N)) (k0_pay149 (vA C) N) (k0_pay150 (vA C) N) (k0_pay151 (vA C) N)
      (k0_pay152 (vA C) N) (k0_pay153 (vA C) N) (k0_pay154 (vA C) N) (k0_pay155 (vA C) N) (k0_pay156 (vA C) N) (k0_pay157 (vA C) N)
      (k0_pay158 (vA C) N) (k0_pay159 (vA C) N) (k0_pay162 (k0_pay160 (vA C)) (k0_pay161 N)) (k0_pay163 (vA C) N) (k0_pay164 (vA C) N)
      (k0_pay165 (vB C) N) (k0_pay166 (vB C) N) (k0_pay167 (vB C) N) (k0_pay168 (vB C) N) (k0_pay169 (vB C) N) (k0_pay170 (vB C) N)
      (k0_pay171 (vB C) N) (k0_pay172 (vB C) N) (k0_pay173 (vB C) N) (k0_pay174 (vB C)) (k0_pay175 N) = kw C N := by
  funext t
  have pick : ∀ (v : Vec F S16 .f32) (n : ℕ) (h : _) (h' : _), extractAt ![0] (extractStridedSlice S1 ![n] v h) h' = v (ix 16 n) := by
    intro v n h h'
    refine congrArg v (idx_ext ?_)
    have : n + 1 ≤ 16 := h.2 0
    rw [ix_val, Nat.mod_eq_of_lt (by omega)]
    rfl
  simp only [wts, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, pick]
  have hA : ∀ n, vA C (ix 16 n) = C (ix 32 (n % 16)) := fun _ => rfl
  have hB : ∀ n, vB C (ix 16 n) = C (ix 32 (16 + n % 16)) := fun _ => rfl
  simp only [hA, hB, Nat.reduceMod, Nat.reduceAdd]
  fin_cases t <;> simp only [Fin.zero_eta, Fin.mk_one, Fin.reduceFinMk, Matrix.cons_val, kw, slot] <;> rfl

omit [FloatOps F] [∀ e, Nonempty (Elt F e)] in
/-- The last two blocks and the ones before them are all blocks. -/
theorem put_two (Φ : ℕ → sProp 𝕄) (n a b : ℕ) (hn : 2 ≤ n) (h : a = n - 2 ∧ b = n - 1 ∨ a = n - 1 ∧ b = n - 2) :
    iprop(bigSep (Finset.range (n - 2)) Φ ∗ Φ a ∗ Φ b) ⊢ bigSep (Finset.range n) Φ := by
  have e : Finset.range n = insert a (insert b (Finset.range (n - 2))) := by
    ext x; simp only [Finset.mem_range, Finset.mem_insert]; omega
  rw [e, SparseCore.bigSep_insert' (by simp; omega), SparseCore.bigSep_insert' (by simp; omega)]
  iintro ⟨H, Ha, Hb⟩
  isplitl [Ha]; · iexact Ha
  isplitl [Hb]; · iexact Hb
  iexact H

omit [∀ e, Nonempty (Elt F e)] in
/-- After the last trip: the inputs at rest, one pair of copies under way on each side. -/
theorem outer_end (w : Fin 28 → F .f32) (X : S4800000.Idx → F .f32) (O0 : S25600000.Idx → F .f32) (O : CellTallies nD τ sig (HIx 1))
    (W : Waits sig (HIx 1)) :
    outer d i w X O0 O W (nT i) () ⊢ iprop(Transfers.MayWaits (thr d i) (none : HIx 1) O ∗ idle0 d i ∗ idle1 d i
      ∗ out0 d i w X O0 (19 + 1) ∗ out1 d i w X O0 ((nT i / 2 - 1) + 1)
      ∗ (bigSep (Finset.range (nT i)) fun j => xP d i X j) ∗ (bigSep (Finset.range (nT i - 2)) fun j => oP d i (res w X) j)
      ∗ ∃ W', ⌜Recs W W'⌝ ∗ owes (thr d i) O W') := by
  have e0 : (nT i + 1) / 2 = 19 + 1 := by rcases nT_cases i with h | h <;> rw [h]
  have e1 : nT i / 2 = nT i / 2 - 1 + 1 := by rcases nT_cases i with h | h <;> rw [h]
  have hst : stage (F := F) d i X (nT i) ⊢ iprop(idle0 d i ∗ idle1 d i) := by
    unfold stage in0 in1
    rw [if_neg (lt_irrefl (nT i)), if_neg (lt_irrefl (nT i))]
    split
    · exact .rfl
    · iintro ⟨Ha, Hb⟩
      isplitl [Hb]; · iexact Hb
      iexact Ha
  unfold outer
  rw [Finset.erase_eq_of_notMem (by simp), e0, ← e1]
  iintro ⟨Hmw, Hst, H0, H1, Hx, Hd, -, HO⟩
  ihave Hst := hst $$ Hst
  icases Hst with ⟨Hi0, Hi1⟩
  isplitl [Hmw]; · iexact Hmw
  isplitl [Hi0]; · iexact Hi0
  isplitl [Hi1]; · iexact Hi1
  isplitl [H0]; · iexact H0
  isplitl [H1]; · iexact H1
  isplitl [Hx]; · iexact Hx
  isplitl [Hd]; · iexact Hd
  iexact HO

set_option maxHeartbeats 2000000 in
/-- The tile's task over its buffers. -/
theorem tile_run (X : S4800000.Idx → F .f32) (C : S32.Idx → F .f32) (N : S16.Idx → F .f32) (O0 : S25600000.Idx → F .f32) (qc qn : PosShare TreeShare)
    (O : CellTallies nD τ sig (HIx 1)) (W : Waits sig (HIx 1)) :
    iprop(Transfers.MayWaits (thr d i) (none : HIx 1) O ∗ (bigSep (Finset.range (nT i)) fun j => xP d i X j)
        ∗ (bigSep (Finset.range (nT i)) fun j => oP d i O0 j) ∗ idle0 d i ∗ idle1 d i ∗ out0 d i (kw C N) X O0 0 ∗ out1 d i (kw C N) X O0 0
        ∗ ((clmM).view.loc (thr d i) ↦{qc} C) ∗ ((nsM).view.loc (thr d i) ↦{qn} N)
        ∗ (∃ f, (cM).view.loc (thr d i) ↦{fullShare} f) ∗ (∃ f, (nM).view.loc (thr d i) ↦{fullShare} f)
        ∗ semVal (thr d i, r0) 0 ∗ semVal (thr d i, r1) 0 ∗ owes (thr d i) O W)
      ⊢ wp (M := 𝕄) frame (wpE (defs₀ (F := F)) 𝒱₀ (thr d i) none) Set.univ
          (cc0__body (F := F) i xM (Memref.isWhole_whole _) clmM (Memref.isWhole_whole _) nsM (Memref.isWhole_whole _) oM (Memref.isWhole_whole _)
            x0M (Memref.isWhole_whole _) x1M (Memref.isWhole_whole _) a0M (Memref.isWhole_whole _) b0M (Memref.isWhole_whole _)
            a1M (Memref.isWhole_whole _) b1M (Memref.isWhole_whole _) cM (Memref.isWhole_whole _) nM (Memref.isWhole_whole _)
            cc0_scratch8 cc0_scratch9 cc0_scratch10 cc0_scratch11 cc0_scoped0 cc0_scoped1)
          fun _ => iprop((bigSep (Finset.range (nT i)) fun j => xP d i X j)
            ∗ (bigSep (Finset.range (nT i)) fun j => oP d i (res (kw C N) X) j)
            ∗ ((clmM).view.loc (thr d i) ↦{qc} C) ∗ ((nsM).view.loc (thr d i) ↦{qn} N)
            ∗ (idle0 d i ∗ idle1 d i ∗ out0 d i (kw C N) X O0 0 ∗ out1 d i (kw C N) X O0 0
              ∗ (∃ f, (cM).view.loc (thr d i) ↦{fullShare} f) ∗ (∃ f, (nM).view.loc (thr d i) ↦{fullShare} f)
              ∗ semVal (thr d i, r0) 0 ∗ semVal (thr d i, r1) 0)
            ∗ ∃ W', ⌜Recs W W'⌝ ∗ owes (thr d i) O W') := by
  rw [cc0__body_eq_skeleton]
  unfold cc0__body_skel
  rw [k0_part14_eq_skeleton, k0_part15_eq_skeleton, k0_part16_eq_skeleton, k0_part17_eq_skeleton]
  unfold k0_part14_skel k0_part15_skel k0_part16_skel k0_part17_skel
  rw [wp_bind]
  iintro ⟨Hmw, Hxs, Hos, Hi0, Hi1, Hq0, Hq1, Hc, Hn, HcM, HnM, Hr0, Hr1, HO⟩
  ihave Hxs := (Entails.of_eq (SparseCore.bigSep_erase' (Φ := fun j => xP (F := F) d i X j) (Finset.mem_range.mpr (nT_pos i)))) $$ Hxs
  icases Hxs with ⟨Hx, Hxs⟩
  iapply (wp_wand_r Idealize.ShloMosaic.frame (wpE (defs₀ (F := F)) 𝒱₀ (thr d i) none) Set.univ)
  isplitl [Hmw Hx Hi0 Hc Hn HcM HnM Hr0 Hr1 HO]
  · iapply (part13_run d i X C N qc qn O W)
    isplitl [Hmw]; · iexact Hmw
    isplitl [Hx]; · iexact Hx
    isplitl [Hi0]; · iexact Hi0
    isplitl [Hc]; · iexact Hc
    isplitl [Hn]; · iexact Hn
    isplitl [HcM]; · iexact HcM
    isplitl [HnM]; · iexact HnM
    isplitl [Hr0]; · iexact Hr0
    isplitl [Hr1]; · iexact Hr1
    iexact HO
  iintro %r ⟨%hr, Hmw, Hin, Hc, Hn, HcM, HnM, Hr0, Hr1, HO⟩
  obtain ⟨v1, rfl⟩ := hr
  generalize hv : BitVec.ofNat 32 (nT i) = v21
  have hin : fly0 (F := F) d i X 0 = in0 d i X 0 := (if_pos (nT_pos i)).symm
  ihave Hin := (Entails.of_eq hin) $$ Hin
  sl_exec
  rw [wp_bind]
  sl_for (outer d i (kw C N) X O0 O W) $$ [Hmw Hin Hi1 Hq0 Hq1 Hxs Hos HO]
  case region =>
    intro k u
    rw [← wts_kw]
    exact outer_trip (F := F) d i _ _ _ _ _ _ _ _ _ _ _ _ _ _ _ _ _ _ _ _ _ _ _ _ _ _ _ _ _ _ _ k X O0 O W
  · unfold outer stage
    isplitl [Hmw]; · iexact Hmw
    isplitl [Hin Hi1]
    · iapply (Entails.of_eq (if_pos (show 0 % 2 = 0 from rfl)).symm)
      isplitl [Hin]; · iexact Hin
      iexact Hi1
    isplitl [Hq0]; · iexact Hq0
    isplitl [Hq1]; · iexact Hq1
    isplitl [Hxs]; · iexact Hxs
    isplitr
    · iapply (Entails.of_eq (BI.bigSep_empty (Φ := fun j => oP (F := F) d i (res (kw C N) X) j)).symm)
      iempintro
    isplitl [Hos]
    · iapply (Entails.of_eq (congrArg (fun s => bigSep s fun j => oP (F := F) d i O0 j) (Finset.range_eq_Ico (nT i))))
      iexact Hos
    iexact HO
  iintro %_ HI
  sl_for (fun _ _ => iprop(emp)) $$ []
  case region =>
    intro k u
    exact absurd k.isLt (Nat.not_lt.2 (Nat.le_trans (k0_t4_abs i).2.1 (Nat.zero_le _)))
  · iempintro
  iintro %_ -
  ihave HI := (outer_end (F := F) d i (kw C N) X O0 O W) $$ [HI]
  · iexact HI
  icases HI with ⟨Hmw, Hi0, Hi1, Hq0, Hq1, Hxs, Hos, %W', %hW', HO⟩
  ihave Hq0 := (Entails.of_eq (out0_succ (F := F) d i (kw C N) X O0 19)) $$ Hq0
  ihave Hq1 := (Entails.of_eq (out1_succ (F := F) d i (kw C N) X O0 (nT i / 2 - 1))) $$ Hq1
  icases Hq1 with ⟨%t1, %ht5, %ht1, Hq1⟩
  icases Hq0 with ⟨%t0, %ht2, %ht0, Hq0⟩
  have ht6 : k0_off6 i t0 = ![10240 * bk i t0.val] := by rw [k0_off6_eq]; unfold bk; congr 1; omega
  have ht7 : k0_off7 i t0 = ![12800000 + 10240 * bk i t0.val] := by rw [k0_off7_eq]; unfold bk; congr 1; omega
  have ht12 : k0_off12 i t1 = ![10240 * bk i t1.val] := by rw [k0_off12_eq]; unfold bk; congr 1; omega
  have ht13 : k0_off13 i t1 = ![12800000 + 10240 * bk i t1.val] := by rw [k0_off13_eq]; unfold bk; congr 1; omega
  rcases nT_cases i with hn | hn
  on_goal 1 =>
    have hv' : v21 = 39#32 := by rw [← hv, hn]
  on_goal 2 =>
    have hv' : v21 = 40#32 := by rw [← hv, hn]
  all_goals
    subst hv'
    sl_exec
    ihave Hd0 := (Entails.of_eq (landed (F := F) d i (kw C N) X t0.val (bk_lt i t0) (n := k0_off6_inb i t0 ht2) (n' := k0_off7_inb i t0 ht2)
      ht6 ht7 _ _ _ _ rfl rfl)) $$ [Hq0_dst0 Hq0_dst1]
    · isplitl [Hq0_dst0]
      · iexact Hq0_dst0
      · iexact Hq0_dst1
    ihave Hd1 := (Entails.of_eq (landed (F := F) d i (kw C N) X t1.val (bk_lt i t1) (n := k0_off12_inb i t1 ht5) (n' := k0_off13_inb i t1 ht5)
      ht12 ht13 _ _ _ _ rfl rfl)) $$ [Hq1_dst0 Hq1_dst1]
    · isplitl [Hq1_dst0]
      · iexact Hq1_dst0
      · iexact Hq1_dst1
    ihave Ha0 := (Entails.of_eq (whole_a0 (F := F) d i _)) $$ Hq0_src0
    ihave Hb0 := (Entails.of_eq (whole_b0 (F := F) d i _)) $$ Hq0_src1
    ihave Ha1 := (Entails.of_eq (whole_a1 (F := F) d i _)) $$ Hq1_src0
    ihave Hb1 := (Entails.of_eq (whole_b1 (F := F) d i _)) $$ Hq1_src1
    sl_step
    isplitl [Hxs]; · iexact Hxs
    isplitl [Hos Hd0 Hd1]
    · iapply (put_two (fun j => oP (F := F) d i (res (kw C N) X) j) (nT i) t0.val t1.val (by omega) (by omega))
      isplitl [Hos]; · iexact Hos
      isplitl [Hd0]; · iexact Hd0
      iexact Hd1
    isplitl [Hc]; · iexact Hc
    isplitl [Hn]; · iexact Hn
    isplitr [HO]
    · isplitl [Hi0]; · iexact Hi0
      isplitl [Hi1]; · iexact Hi1
      isplitl [Ha0 Hb0 Hq0]
      · iapply (Entails.of_eq (out0_zero (F := F) d i (kw C N) X O0).symm)
        isplitl [Ha0]
        · iexists _; iexact Ha0
        isplitl [Hb0]
        · iexists _; iexact Hb0
        iexact Hq0
      isplitl [Ha1 Hb1 Hq1]
      · iapply (Entails.of_eq (out1_zero (F := F) d i (kw C N) X O0).symm)
        isplitl [Ha1]
        · iexists _; iexact Ha1
        isplitl [Hb1]
        · iexists _; iexact Hb1
        iexact Hq1
      isplitl [HcM]; · iexact HcM
      isplitl [HnM]; · iexact HnM
      isplitl [Hr0]; · iexact Hr0
      iexact Hr1
    iapply (owes_recs (F := F) d i ((((hW'.insert _).insert _).insert _).insert _))
    iexact HO

end Tile

end Cert.Proof.KernelIdeal
-- ==== Proof.Slots.lean ====
/-
  The sixteen values of a point as a sum of monomials. With the coordinates and the weights real and the first coordinate
  not zero, what the kernel forms by shared products and one quotient is, slot by slot, the sum of the slot's monomials.
-/
module

public import proofs.«01_k».proof.Defs
public import proofs.«01_k».proof.Proof.IdealTile
public import Mathlib.Tactic.FieldSimp
public import Mathlib.Tactic.Ring

@[expose] public section

set_option maxRecDepth 16384

noncomputable section

namespace Cert.Proof.KernelIdeal

open Cert.KernelIdeal Cert.KernelIdeal.Gen
open Idealize.ShloMosaic

/-- The powers of the three coordinates in the twenty-eight monomials. -/
def pow : Fin 3 → Fin 28 → ℤ :=
  ![![0, 1, 0, 1, 2, 1, 0, 0, -2, 1, 2, 2, 3, 3, 2, 1, 1, -1, 0, 0, -2, 1, 1, -1, 2, 2, 3, 3],
    ![0, 1, 0, 0, 1, 1, 0, 0, 2, 0, 0, 2, 1, 3, 1, 1, 1, 3, 0, 0, 2, 0, 0, 2, 0, 2, 0, 2],
    ![0, 0, 1, 0, 0, 1, 2, 0, 0, 1, 0, 0, 0, 0, 1, 2, 0, 0, 3, 1, 1, 2, 0, 0, 1, 1, 0, 0]]

/-- Monomial `t` at `(x, y, z)`. -/
def mono (x y z : ℝ) (t : Fin 28) : ℝ := x ^ pow 0 t * y ^ pow 1 t * z ^ pow 2 t

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The kernel's sixteen values, over the reals. -/
def laneR (w : Fin 28 → ℝ) (x y z : ℝ) : Fin 16 → ℝ :=
  let u := y * y / (x * x)
  ![w 0, w 1 * (x * y), w 2 * z, w 3 * x, w 4 * (x * (x * y)), w 5 * (x * y * z), w 6 * (z * z) + w 8 * u + w 7,
    w 9 * (x * z),
    w 10 * (x * x) + w 11 * (x * y * (x * y)), w 12 * (x * x * (x * y)) + w 13 * (x * y * (x * y * (x * y))), w 14 * (x * (x * y) * z),
    w 15 * (x * y * z * z) + w 16 * (x * y) + w 17 * (u * (x * y)),
    w 18 * (z * z * z) + w 19 * z + w 20 * (u * z),
    w 21 * (x * z * z) + w 22 * x + w 23 * (u * x),
    w 24 * (x * x * z) + w 25 * (x * y * (x * y) * z), w 26 * (x * (x * x)) + w 27 * (x * (x * y * (x * y)))]

theorem lane_real (w : Fin 28 → ℝ) (x y z : ℝ) (hx : x ≠ 0) (s : Fin 16) :
    lane (F := Ideal) (fun t => ((w t : ℝ) : EReal)) x y z s = ((laneR w x y z s : ℝ) : EReal) := by
  have hxx : x * x ≠ 0 := mul_ne_zero hx hx
  unfold lane laneR
  simp only [Ideal.mulf_def, Ideal.addf_def, Ideal.divf_def, ← EReal.coe_mul, div_real _ _ hxx, ← EReal.coe_add]
  fin_cases s <;> rfl

theorem slot_sum (f : Fin 28 → ℝ) (s : Fin 16) : (∑ t : Fin 28, if slot t = s.val then f t else 0)
    = (![f 0, f 1, f 2, f 3, f 4, f 5, f 6 + f 7 + f 8, f 9, f 10 + f 11, f 12 + f 13, f 14, f 15 + f 16 + f 17, f 18 + f 19 + f 20,
        f 21 + f 22 + f 23, f 24 + f 25, f 26 + f 27] : Fin 16 → ℝ) s := by
  simp only [Fin.sum_univ_succ]
  fin_cases s <;> simp [slot, add_assoc]

theorem slots_real (clm : Fin 28 → ℝ) (ns : Fin 16 → ℝ) (x y z : ℝ) (hx : x ≠ 0) (s : Fin 16) :
    laneR (fun t => clm t * ns (Fin.ofNat 16 (slot t))) x y z s = (∑ t : Fin 28, if slot t = s.val then mono x y z t * clm t else 0) * ns s := by
  rw [slot_sum]
  fin_cases s <;> simp [laneR, mono, pow, slot, Fin.ofNat, zpow_neg] <;> field_simp
  all_goals ring

end Cert.Proof.KernelIdeal

end
-- ==== Proof.Tame.lean ====
/-
  What the precondition says of the arguments, element by element: the two index tables are the stated ones, every
  float is a real number, and no first coordinate is zero.
-/
module

public import proofs.«01_k».proof.Defs
public import proofs.«01_k».proof.Proof.Gen.Pre_tame
public import proofs.«01_k».proof.Proof.Slots
public import Idealize.ShloMosaic.Lib.Pointwise
public import Idealize.ShloMosaic.Lib.ReduceAll

@[expose] public section

set_option maxRecDepth 16384

noncomputable section

namespace Cert.Proof.Tame

open Cert.Pre_tame Cert.Pre_tame.Gen
open Idealize.ShloMosaic

instance : Subsingleton S_.Idx := ⟨fun _ _ => funext fun a => a.elim0⟩

/-- What the precondition says of each element. -/
structure Says (A0 : FVec Ideal S1600000x3 .f32) (A1 : IVec S28 32) (A2 : FVec Ideal S28 .f32) (A3 : IVec S3x28 32) (A4 : FVec Ideal S16 .f32) : Prop where
  dst : ∀ t : Fin 28, (A1 (ix1 t)).toInt = (KernelIdeal.slot t : Int)
  pows : ∀ (a : Fin 3) (t : Fin 28), (A3 (ix2 a t)).toInt = KernelIdeal.pow a t
  xyz : ∀ (p : Fin 1600000) (a : Fin 3), ∃ r : ℝ, A0 (ix2 p a) = (r : EReal)
  x_ne : ∀ p : Fin 1600000, A0 (ix2 p 0) ≠ 0
  clm : ∀ t : Fin 28, ∃ r : ℝ, A2 (ix1 t) = (r : EReal)
  ns : ∀ s : Fin 16, ∃ r : ℝ, A4 (ix1 s) = (r : EReal)

/-- An extended real whose absolute value is below the infinity is a real number. -/
theorem real_of_abs_lt {v : Ideal .f32} (h : FloatOps.cmpf .olt (FloatOps.hostAbsf v) (FloatOps.ofBits (F := Ideal) .f32 0x7F800000#32) = 1#1) :
    ∃ r : ℝ, v = (r : EReal) := by
  have htop : (FloatOps.ofBits (F := Ideal) .f32 0x7F800000#32 : EReal) = ⊤ := by
    show Ideal.ofBits .f32 0x7F800000#32 = ⊤
    simp [Ideal.ofBits, Ideal.ieee]
  have h' : BitVec.ofBool (decide (max (v : EReal) (-v) < FloatOps.ofBits (F := Ideal) .f32 0x7F800000#32)) = 1#1 := h
  rw [htop] at h'
  have hlt : max (v : EReal) (-v) < ⊤ := by
    by_contra hn
    rw [decide_eq_false hn] at h'
    exact absurd h' (by decide)
  induction v using EReal.rec with
  | bot => exact absurd hlt (by simp)
  | top => exact absurd hlt (by simp)
  | coe r => exact ⟨r, rfl⟩

theorem elements {A0 : FVec Ideal S1600000x3 .f32} {A1 : IVec S28 32} {A2 : FVec Ideal S28 .f32} {A3 : IVec S3x28 32} {A4 : FVec Ideal S16 .f32}
    (h : fn (F := Ideal) A0 A1 A2 A3 A4 = fun _ => 1#1) : Says A0 A1 A2 A3 A4 := by
  have h0 := congrFun h ix0
  simp only [fn, fn_part1, andi, IntOp.andi_eq_one] at h0
  obtain ⟨⟨⟨⟨⟨h1, h3⟩, hf⟩, hx⟩, hc⟩, hn⟩ := h0
  have t1 : ∀ t : Fin 28, (lit0 (S28.rowMajor (ix1 t))).toInt = (KernelIdeal.slot t : Int) := by decide +kernel
  have t3 : ∀ (a : Fin 3) (t : Fin 28), (lit1 (S3x28.rowMajor (ix2 a t))).toInt = KernelIdeal.pow a t := by decide +kernel
  refine ⟨fun t => ?_, fun a t => ?_, fun p a => ?_, fun p => ?_, fun t => ?_, fun s => ?_⟩
  · have e := Host.reduce_andi_all _ _ _ _ _ h1 (ix1 t)
    rw [← t1 t]
    exact congrArg BitVec.toInt (IntOp.cmpi_eq.1 e)
  · have e := Host.reduce_andi_all _ _ _ _ _ h3 (ix2 a t)
    rw [← t3 a t]
    exact congrArg BitVec.toInt (IntOp.cmpi_eq.1 e)
  · have e := Host.reduce_andi_all _ _ _ _ _ hf (ix2 p a)
    exact real_of_abs_lt e
  · have e := Host.reduce_andi_all _ _ _ _ _ hx (ix1 p)
    intro h0
    pointwise at e
    rw [h0] at e
    exact absurd e (by simp)
  · have e := Host.reduce_andi_all _ _ _ _ _ hc (ix1 t)
    exact real_of_abs_lt e
  · have e := Host.reduce_andi_all _ _ _ _ _ hn (ix1 s)
    exact real_of_abs_lt e

end Cert.Proof.Tame

end
-- ==== Proof.IdealTask.lean ====
/-
  The task of one vector subcore as the launch asks for it: its scratch buffers and semaphores taken out of what the
  subcore owns, the tile's program run over them, and everything put back.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.IdealInner
public import Idealize.ShloMosaic.Lib.Batch
public import Idealize.ShloMosaic.Lib.Ring
public import proofs.«01_k».proof.Proof.IdealOuter
public import proofs.«01_k».proof.Proof.IdealLoop
public import proofs.«01_k».proof.Proof.IdealTile

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xM" => (Memref.whole Cert.KernelIdeal.main_v3_scv : Memref Cert.KernelIdeal.sig Kind.scVector Space.hbm Cert.KernelIdeal.S4800000 EltTy.f32)
local notation "clmM" => (Memref.whole Cert.KernelIdeal.main_v5_scv : Memref Cert.KernelIdeal.sig Kind.scVector Space.hbm Cert.KernelIdeal.S32 EltTy.f32)
local notation "nsM" => (Memref.whole Cert.KernelIdeal.main_arg4_scv : Memref Cert.KernelIdeal.sig Kind.scVector Space.hbm Cert.KernelIdeal.S16 EltTy.f32)
local notation "oM" => (Memref.whole Cert.KernelIdeal.main_v6_scv : Memref Cert.KernelIdeal.sig Kind.scVector Space.hbm Cert.KernelIdeal.S25600000 EltTy.f32)
local notation "x0M" => (Memref.whole Cert.KernelIdeal.cc0_scratch0 : Memref Cert.KernelIdeal.sig Kind.scVector Space.vmem Cert.KernelIdeal.S3840 EltTy.f32)
local notation "x1M" => (Memref.whole Cert.KernelIdeal.cc0_scratch1 : Memref Cert.KernelIdeal.sig Kind.scVector Space.vmem Cert.KernelIdeal.S3840 EltTy.f32)
local notation "a0M" => (Memref.whole Cert.KernelIdeal.cc0_scratch2 : Memref Cert.KernelIdeal.sig Kind.scVector Space.vmem Cert.KernelIdeal.S10240 EltTy.f32)
local notation "b0M" => (Memref.whole Cert.KernelIdeal.cc0_scratch3 : Memref Cert.KernelIdeal.sig Kind.scVector Space.vmem Cert.KernelIdeal.S10240 EltTy.f32)
local notation "a1M" => (Memref.whole Cert.KernelIdeal.cc0_scratch4 : Memref Cert.KernelIdeal.sig Kind.scVector Space.vmem Cert.KernelIdeal.S10240 EltTy.f32)
local notation "b1M" => (Memref.whole Cert.KernelIdeal.cc0_scratch5 : Memref Cert.KernelIdeal.sig Kind.scVector Space.vmem Cert.KernelIdeal.S10240 EltTy.f32)
local notation "cM" => (Memref.whole Cert.KernelIdeal.cc0_scratch6 : Memref Cert.KernelIdeal.sig Kind.scVector Space.vmem Cert.KernelIdeal.S32 EltTy.f32)
local notation "nM" => (Memref.whole Cert.KernelIdeal.cc0_scratch7 : Memref Cert.KernelIdeal.sig Kind.scVector Space.vmem Cert.KernelIdeal.S16 EltTy.f32)

local notation "s8" => (SemLoc.dma (SemArray.sem cc0_scratch8) : SemLoc Cert.KernelIdeal.sig)
local notation "s9" => (SemLoc.dma (SemArray.sem cc0_scratch9) : SemLoc Cert.KernelIdeal.sig)
local notation "s10" => (SemLoc.dma (SemArray.sem cc0_scratch10) : SemLoc Cert.KernelIdeal.sig)
local notation "s11" => (SemLoc.dma (SemArray.sem cc0_scratch11) : SemLoc Cert.KernelIdeal.sig)

section Task

local notation "r0" => (SemLoc.dma (SemArray.sem cc0_scoped0) : SemLoc Cert.KernelIdeal.sig)
local notation "r1" => (SemLoc.dma (SemArray.sem cc0_scoped1) : SemLoc Cert.KernelIdeal.sig)

variable [FloatOps F] [∀ e, Nonempty (Elt F e)] (d : Dev nD) (i : grid0.Coords)

/-! ## What the subcore owns -/

/-- The kernel's eight scratch buffers. -/
abbrev bufs8 : Finset (Ref sig .scVector) :=
  {cc0_scratch0, cc0_scratch1, cc0_scratch2, cc0_scratch3, cc0_scratch4, cc0_scratch5, cc0_scratch6, cc0_scratch7}
/-- The kernel's six semaphores. -/
abbrev sems6 : Finset (SemLoc sig) := {s8, s9, s10, s11, r0, r1}

/-- The subcore's own scratch, as buffers of the device. -/
abbrev bufs8D : Finset (DevRef τ sig) := bufs8.image (thr d i).2.devRef
/-- The subcore's own semaphores, as cells of the mesh. -/
abbrev sems6D : Finset (GSem nD τ sig) := sems6.image fun s => (thr d i, s)

omit [FloatOps F] [∀ e, Nonempty (Elt F e)] in
theorem bufs8D_sub : bufs8D d i ⊆ ownRefs (τ := τ) (thr d i).2 := by
  intro b hb
  obtain ⟨r, hr, rfl⟩ := Finset.mem_image.mp hb
  refine SparseCore.Cfg.mem_ownRefs_of_owner (p := (thr d i).2) ?_
  simp only [bufs8, Finset.mem_insert, Finset.mem_singleton] at hr
  rcases hr with rfl | rfl | rfl | rfl | rfl | rfl | rfl | rfl <;> rfl

omit [FloatOps F] [∀ e, Nonempty (Elt F e)] in
theorem sems6D_sub : sems6D d i ⊆ ownCells (thr d i) := by
  intro g hg
  obtain ⟨s, hs, rfl⟩ := Finset.mem_image.mp hg
  refine mem_ownCells.mpr ⟨rfl, ?_⟩
  show s.isScoped .scVector = true
  clear hg
  revert s; decide

omit [FloatOps F] [∀ e, Nonempty (Elt F e)] in
theorem bigSep_bufs8 (Φ : Ref sig .scVector → sProp 𝕄) :
    bigSep bufs8 Φ = iprop(Φ cc0_scratch0 ∗ Φ cc0_scratch1 ∗ Φ cc0_scratch2 ∗ Φ cc0_scratch3 ∗ Φ cc0_scratch4 ∗ Φ cc0_scratch5
      ∗ Φ cc0_scratch6 ∗ Φ cc0_scratch7) := by
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] [∀ e, Nonempty (Elt F e)] in
/-- The eight scratch buffers, at some contents, and the rest of what the subcore owns. -/
theorem ownBufs_eq :
    (ownBufs (thr d i) : sProp 𝕄)
      = iprop(((∃ f, (x0M).view.loc (thr d i) ↦{fullShare} f) ∗ (∃ f, (x1M).view.loc (thr d i) ↦{fullShare} f)
          ∗ (∃ f, (a0M).view.loc (thr d i) ↦{fullShare} f) ∗ (∃ f, (b0M).view.loc (thr d i) ↦{fullShare} f)
          ∗ (∃ f, (a1M).view.loc (thr d i) ↦{fullShare} f) ∗ (∃ f, (b1M).view.loc (thr d i) ↦{fullShare} f)
          ∗ (∃ f, (cM).view.loc (thr d i) ↦{fullShare} f) ∗ (∃ f, (nM).view.loc (thr d i) ↦{fullShare} f))
        ∗ bigSep (ownRefs (τ := τ) (thr d i).2 \ bufs8D d i) fun b => iprop(∃ f, ((d, b) : Loc nD τ sig) ↦{fullShare} f)) := by
  unfold SparseCore.Cfg.ownBufs
  rw [SparseCore.bigSep_sdiff_split' (bufs8D_sub d i), SparseCore.bigSep_image_of_injOn (fun a _ b _ h => Proc.devRef_injective _ h)]
  exact congrArg (fun A : sProp 𝕄 => iprop(A ∗ _))
    (bigSep_bufs8 (F := F) fun r => iprop(∃ f, ((d, (thr d i).2.devRef r) : Loc nD τ sig) ↦{fullShare} f))

omit [FloatOps F] [∀ e, Nonempty (Elt F e)] in
/-- The six semaphores at zero, and the rest of the subcore's. -/
theorem ownSems0_eq :
    (ownSems0 (thr d i) : sProp 𝕄)
      = iprop((semVal (thr d i, s8) 0 ∗ semVal (thr d i, s9) 0 ∗ semVal (thr d i, s10) 0 ∗ semVal (thr d i, s11) 0
          ∗ semVal (thr d i, r0) 0 ∗ semVal (thr d i, r1) 0)
        ∗ bigSep (ownCells (thr d i) \ sems6D d i) fun g => semVal g 0) := by
  unfold SparseCore.Cfg.ownSems0
  rw [SparseCore.bigSep_sdiff_split' (sems6D_sub d i), SparseCore.bigSep_image_of_injOn (fun a _ b _ h => (Prod.mk.inj h).2),
    SparseCore.bigSep_insert' (by decide), SparseCore.bigSep_insert' (by decide), SparseCore.bigSep_insert' (by decide),
    SparseCore.bigSep_insert' (by decide), SparseCore.bigSep_insert' (by decide), bigSep_singleton]

/-! ## The task -/

/-- What a task works on: its blocks of the input and of the output, and a read share of each table. -/
def job (X : S4800000.Idx → F .f32) (C : S32.Idx → F .f32) (N : S16.Idx → F .f32) (qc qn : PosShare TreeShare) (G : S25600000.Idx → F .f32) : sProp 𝕄 :=
  iprop((bigSep (Finset.range (nT i)) fun j => xP d i X j) ∗ (bigSep (Finset.range (nT i)) fun j => oP d i G j)
    ∗ ((clmM).view.loc (thr d i) ↦{qc} C) ∗ ((nsM).view.loc (thr d i) ↦{qn} N))

/-- The task on device `d`'s vector subcore at coordinates `i`: its blocks of the output hold the values of the points
    of its blocks of the input, and what it borrowed is back. -/
theorem tile_body (hF : (K (F := F)).Facts) (X : S4800000.Idx → F .f32) (C : S32.Idx → F .f32) (N : S16.Idx → F .f32) (O0 : S25600000.Idx → F .f32)
    (qc qn : PosShare TreeShare) (O : CellTallies nD τ sig (HIx 1)) (W : Waits sig (HIx 1)) (hO : ∀ g, O g none = 0) :
    iprop(levAts (K (F := F)).L (K (F := F)).lev ∗ emp ∗ job d i X C N qc qn O0
        ∗ scopedBufs (thr d i) ∗ scopedSems0 (thr d i) ∗ owes (thr d i) O W)
      ⊢ wp (M := 𝕄) frame (wpE (defs₀ (F := F)) 𝒱₀ (thr d i) none) Set.univ
          (cc0__body (F := F) i xM (Memref.isWhole_whole _) clmM (Memref.isWhole_whole _) nsM (Memref.isWhole_whole _) oM (Memref.isWhole_whole _)
            x0M (Memref.isWhole_whole _) x1M (Memref.isWhole_whole _) a0M (Memref.isWhole_whole _) b0M (Memref.isWhole_whole _)
            a1M (Memref.isWhole_whole _) b1M (Memref.isWhole_whole _) cM (Memref.isWhole_whole _) nM (Memref.isWhole_whole _)
            cc0_scratch8 cc0_scratch9 cc0_scratch10 cc0_scratch11 cc0_scoped0 cc0_scoped1)
          fun _ => iprop(job d i X C N qc qn (res (kw C N) X) ∗ scopedBufs (thr d i) ∗ scopedSems0 (thr d i)
            ∗ ∃ W', ⌜∀ p ∈ W', p ∈ W ∨ p.2 = none⌝ ∗ owes (thr d i) O W') := by
  rw [(K (F := F)).scopedBufs_V hF d _ _, SparseCore.Cfg.scopedSems0_V (Val := Elt F) d _ _, ownSems0_eq, ownBufs_eq]
  unfold job
  iintro ⟨#Hlv, -, ⟨Hxs, Hos, Hc, Hn⟩, ⟨⟨Hx0, Hx1, Ha0, Hb0, Ha1, Hb1, HcM, HnM⟩, Hbufs⟩, ⟨⟨H8, H9, H10, H11, Hr0, Hr1⟩, Hsems⟩, HO⟩
  ihave Hmw := ((K (F := F)).mayWaits_none (thr := thr d i) hO) $$ Hlv
  iapply (wp_wand_r Idealize.ShloMosaic.frame (wpE (defs₀ (F := F)) 𝒱₀ (thr d i) none) Set.univ)
  isplitl [Hmw Hxs Hos Hc Hn Hx0 Hx1 Ha0 Hb0 Ha1 Hb1 HcM HnM H8 H9 H10 H11 Hr0 Hr1 HO]
  · iapply (tile_run d i X C N O0 qc qn O W)
    rw [out0_zero, out1_zero]
    unfold idle0 idle1
    isplitl [Hmw]; · iexact Hmw
    isplitl [Hxs]; · iexact Hxs
    isplitl [Hos]; · iexact Hos
    isplitl [Hx0 H8]; · isplitl [Hx0] <;> iassumption
    isplitl [Hx1 H9]; · isplitl [Hx1] <;> iassumption
    isplitl [Ha0 Hb0 H10]
    · isplitl [Ha0]; · iexact Ha0
      isplitl [Hb0] <;> iassumption
    isplitl [Ha1 Hb1 H11]
    · isplitl [Ha1]; · iexact Ha1
      isplitl [Hb1] <;> iassumption
    isplitl [Hc]; · iexact Hc
    isplitl [Hn]; · iexact Hn
    isplitl [HcM]; · iexact HcM
    isplitl [HnM]; · iexact HnM
    isplitl [Hr0]; · iexact Hr0
    isplitl [Hr1]; · iexact Hr1
    iexact HO
  rw [out0_zero, out1_zero]
  unfold idle0 idle1
  iintro %_ ⟨Hxs, Hos, Hc, Hn, ⟨⟨Hx0, H8⟩, ⟨Hx1, H9⟩, ⟨Ha0, Hb0, H10⟩, ⟨Ha1, Hb1, H11⟩, HcM, HnM, Hr0, Hr1⟩, HO⟩
  isplitl [Hxs Hos Hc Hn]
  · isplitl [Hxs]; · iexact Hxs
    isplitl [Hos]; · iexact Hos
    isplitl [Hc] <;> iassumption
  isplitl [Hx0 Hx1 Ha0 Hb0 Ha1 Hb1 HcM HnM Hbufs]
  · isplitr [Hbufs]
    · isplitl [Hx0]; · iexact Hx0
      isplitl [Hx1]; · iexact Hx1
      isplitl [Ha0]; · iexact Ha0
      isplitl [Hb0]; · iexact Hb0
      isplitl [Ha1]; · iexact Ha1
      isplitl [Hb1]; · iexact Hb1
      isplitl [HcM] <;> iassumption
    · iexact Hbufs
  isplitl [H8 H9 H10 H11 Hr0 Hr1 Hsems]
  · isplitr [Hsems]
    · isplitl [H8]; · iexact H8
      isplitl [H9]; · iexact H9
      isplitl [H10]; · iexact H10
      isplitl [H11]; · iexact H11
      isplitl [Hr0] <;> iassumption
    · iexact Hsems
  iexact HO

end Task

end Cert.Proof.KernelIdeal

end
-- ==== Proof.IdealShare.lean ====
/-
  How the call's four arrays are shared out over the thirty-two vector subcores: the blocks of the input and of the
  output are disjoint and cover them, each block belongs to exactly one trip of one subcore, and the two tables are
  read at thirty-two shares.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.IdealInner
public import Idealize.ShloMosaic.Lib.Batch
public import Idealize.ShloMosaic.Lib.Ring
public import proofs.«01_k».proof.Proof.IdealOuter
public import proofs.«01_k».proof.Proof.IdealLoop
public import proofs.«01_k».proof.Proof.IdealTile
public import proofs.«01_k».proof.Proof.IdealTask

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xM" => (Memref.whole Cert.KernelIdeal.main_v3_scv : Memref Cert.KernelIdeal.sig Kind.scVector Space.hbm Cert.KernelIdeal.S4800000 EltTy.f32)
local notation "clmM" => (Memref.whole Cert.KernelIdeal.main_v5_scv : Memref Cert.KernelIdeal.sig Kind.scVector Space.hbm Cert.KernelIdeal.S32 EltTy.f32)
local notation "nsM" => (Memref.whole Cert.KernelIdeal.main_arg4_scv : Memref Cert.KernelIdeal.sig Kind.scVector Space.hbm Cert.KernelIdeal.S16 EltTy.f32)
local notation "oM" => (Memref.whole Cert.KernelIdeal.main_v6_scv : Memref Cert.KernelIdeal.sig Kind.scVector Space.hbm Cert.KernelIdeal.S25600000 EltTy.f32)
local notation "x0M" => (Memref.whole Cert.KernelIdeal.cc0_scratch0 : Memref Cert.KernelIdeal.sig Kind.scVector Space.vmem Cert.KernelIdeal.S3840 EltTy.f32)
local notation "x1M" => (Memref.whole Cert.KernelIdeal.cc0_scratch1 : Memref Cert.KernelIdeal.sig Kind.scVector Space.vmem Cert.KernelIdeal.S3840 EltTy.f32)
local notation "a0M" => (Memref.whole Cert.KernelIdeal.cc0_scratch2 : Memref Cert.KernelIdeal.sig Kind.scVector Space.vmem Cert.KernelIdeal.S10240 EltTy.f32)
local notation "b0M" => (Memref.whole Cert.KernelIdeal.cc0_scratch3 : Memref Cert.KernelIdeal.sig Kind.scVector Space.vmem Cert.KernelIdeal.S10240 EltTy.f32)
local notation "a1M" => (Memref.whole Cert.KernelIdeal.cc0_scratch4 : Memref Cert.KernelIdeal.sig Kind.scVector Space.vmem Cert.KernelIdeal.S10240 EltTy.f32)
local notation "b1M" => (Memref.whole Cert.KernelIdeal.cc0_scratch5 : Memref Cert.KernelIdeal.sig Kind.scVector Space.vmem Cert.KernelIdeal.S10240 EltTy.f32)
local notation "cM" => (Memref.whole Cert.KernelIdeal.cc0_scratch6 : Memref Cert.KernelIdeal.sig Kind.scVector Space.vmem Cert.KernelIdeal.S32 EltTy.f32)
local notation "nM" => (Memref.whole Cert.KernelIdeal.cc0_scratch7 : Memref Cert.KernelIdeal.sig Kind.scVector Space.vmem Cert.KernelIdeal.S16 EltTy.f32)

local notation "s8" => (SemLoc.dma (SemArray.sem cc0_scratch8) : SemLoc Cert.KernelIdeal.sig)
local notation "s9" => (SemLoc.dma (SemArray.sem cc0_scratch9) : SemLoc Cert.KernelIdeal.sig)
local notation "s10" => (SemLoc.dma (SemArray.sem cc0_scratch10) : SemLoc Cert.KernelIdeal.sig)
local notation "s11" => (SemLoc.dma (SemArray.sem cc0_scratch11) : SemLoc Cert.KernelIdeal.sig)

section Share

/-- The coordinates of subcore `s` of core `c`. -/
def coordsV (c : Fin 2) (s : Fin 16) : grid0.Coords :=
  fun | 0 => c | 1 => s | ⟨_ + 2, h⟩ => absurd h (Nat.not_lt.2 (Nat.le_add_left _ _))

theorem bk_coordsV (c : Fin 2) (s : Fin 16) (k : ℕ) : bk (coordsV c s) k = 2 * s.val + c.val + 32 * k := rfl
theorem nT_coordsV : ∀ (c : Fin 2) (s : Fin 16), nT (coordsV c s) = (1281 - (2 * s.val + c.val)) / 32 := by decide +kernel

/-! ## The blocks -/

/-- The numbers of the blocks of one subcore. -/
def mine (t : Fin 2 × Fin 16) : Finset ℕ := (Finset.range (nT (coordsV t.1 t.2))).image (bk (coordsV t.1 t.2))

theorem mem_mine (t : Fin 2 × Fin 16) (b : ℕ) : b ∈ mine t ↔ b < 1250 ∧ b % 32 = 2 * t.2.val + t.1.val := by
  unfold mine
  rw [Finset.mem_image]
  simp only [Finset.mem_range, nT_coordsV, bk_coordsV]
  have h1 := t.1.isLt
  have h2 := t.2.isLt
  constructor
  · rintro ⟨k, hk, rfl⟩; omega
  · rintro ⟨hb, h⟩; exact ⟨b / 32, by omega, by omega⟩

theorem mine_cover : Finset.range 1250 = Finset.univ.biUnion mine := by
  ext b
  simp only [Finset.mem_range, Finset.mem_biUnion, Finset.mem_univ, true_and, mem_mine]
  constructor
  · exact fun h => ⟨(⟨b % 32 % 2, by omega⟩, ⟨b % 32 / 2, by omega⟩), h, by show b % 32 = 2 * (b % 32 / 2) + b % 32 % 2; omega⟩
  · exact fun ⟨_, h, _⟩ => h

theorem mine_disjoint : ∀ t ∈ (Finset.univ : Finset (Fin 2 × Fin 16)), ∀ t' ∈ Finset.univ, t ≠ t' → Disjoint (mine t) (mine t') := by
  intro t _ t' _ hne
  refine Finset.disjoint_left.mpr fun b hb hb' => hne ?_
  have h := ((mem_mine t b).mp hb).2
  have h' := ((mem_mine t' b).mp hb').2
  have h1 := t.1.isLt
  have h1' := t'.1.isLt
  exact Prod.ext (Fin.ext (by omega)) (Fin.ext (by omega))

/-- What is held block by block is held subcore by subcore and trip by trip. -/
theorem blocks_deal (Φ : ℕ → sProp 𝕄) :
    bigSep (Finset.range 1250) Φ
      = bigSep Finset.univ fun c : Fin 2 => bigSep Finset.univ fun s : Fin 16 =>
          bigSep (Finset.range (nT (coordsV c s))) fun k => Φ (bk (coordsV c s) k) := by
  rw [mine_cover, Idealize.SL.BI.bigSep_biUnion_eq Finset.univ mine Φ mine_disjoint, bigSep_univ_prod]
  refine bigSep_congr fun c _ => bigSep_congr fun s _ => ?_
  exact SparseCore.bigSep_image_of_injOn (fun a _ b _ h => by rw [bk_coordsV, bk_coordsV] at h; omega) Φ

/-! ## The arrays -/

variable (d : Dev nD)

theorem xSet_disjoint : ∀ b ∈ Finset.range 1250, ∀ b' ∈ Finset.range 1250, b ≠ b' → Disjoint (xSet (3840 * b)) (xSet (3840 * b')) := by
  intro b _ b' _ hne
  refine Finset.disjoint_left.mpr fun y hy hy' => hne ?_
  have h := (Finset.mem_filter.mp hy).2
  have h' := (Finset.mem_filter.mp hy').2
  omega

theorem xSet_cover : (Finset.range 1250).biUnion (fun b => xSet (3840 * b)) = Finset.univ := by
  ext y
  simp only [Finset.mem_biUnion, Finset.mem_range, Finset.mem_univ, iff_true]
  have hy : (y 0).val < 4800000 := (y 0).isLt
  exact ⟨(y 0).val / 3840, by omega, Finset.mem_filter.mpr ⟨Finset.mem_univ _, by omega, by omega⟩⟩

/-- The two halves of an output block, as one set. -/
def oSets (b : ℕ) : Finset S25600000.Idx := oSet (10240 * b) ∪ oSet (12800000 + 10240 * b)

theorem mem_oSets (b : ℕ) (y : S25600000.Idx) :
    y ∈ oSets b ↔ (10240 * b ≤ (y 0).val ∧ (y 0).val < 10240 * b + 10240)
      ∨ (12800000 + 10240 * b ≤ (y 0).val ∧ (y 0).val < 12800000 + 10240 * b + 10240) := by
  unfold oSets oSet
  simp only [Finset.mem_union, Finset.mem_filter, Finset.mem_univ, true_and]

theorem oSets_disjoint : ∀ b ∈ Finset.range 1250, ∀ b' ∈ Finset.range 1250, b ≠ b' → Disjoint (oSets b) (oSets b') := by
  intro b hb b' hb' hne
  refine Finset.disjoint_left.mpr fun y hy hy' => hne ?_
  rw [mem_oSets] at hy hy'
  rw [Finset.mem_range] at hb hb'
  omega

theorem oSets_cover : (Finset.range 1250).biUnion oSets = Finset.univ := by
  ext y
  simp only [Finset.mem_biUnion, Finset.mem_range, Finset.mem_univ, iff_true, mem_oSets]
  have hy : (y 0).val < 25600000 := (y 0).isLt
  exact ⟨(y 0).val % 12800000 / 10240, by omega, by omega⟩

theorem x_deal (X : S4800000.Idx → F .f32) :
    ((SparseCore.T d).loc main_v3 ↦{fullShare} X : sProp 𝕄)
      = bigSep Finset.univ fun c : Fin 2 => bigSep Finset.univ fun s : Fin 16 =>
          bigSep (Finset.range (nT (coordsV c s))) fun k => xP d (coordsV c s) X k := by
  have h := pointsTo_biUnion (nD := nD) (τ := τ) (sig := sig) (Ix := HIx 1) (Val := Elt F) (Name := ℕ) (U := UU) (Lvl := ℕ) (ℓ := (SparseCore.T d).loc main_v3) (q := fullShare) (f := X) (Finset.range 1250) (fun b => xSet (3840 * b)) xSet_disjoint
  rw [xSet_cover, blocks_deal] at h
  exact h

theorem oSets_split (b : ℕ) (hb : b < 1250) (G : S25600000.Idx → F .f32) :
    ((SparseCore.T d).loc main_v6 ↦[oSets b]{fullShare} G : sProp 𝕄)
      = iprop(((SparseCore.T d).loc main_v6 ↦[oSet (10240 * b)]{fullShare} G)
          ∗ ((SparseCore.T d).loc main_v6 ↦[oSet (12800000 + 10240 * b)]{fullShare} G)) := by
  have hd : Disjoint (oSet (10240 * b)) (oSet (12800000 + 10240 * b)) := by
    refine Finset.disjoint_left.mpr fun y hy hy' => ?_
    have h := (Finset.mem_filter.mp hy).2
    have h' := (Finset.mem_filter.mp hy').2
    omega
  have e := pointsTo_union (nD := nD) (τ := τ) (sig := sig) (Ix := HIx 1) (Val := Elt F) (Name := ℕ) (U := UU) (Lvl := ℕ)
    (ℓ := (SparseCore.T d).loc main_v6) (q := fullShare) (f := G) hd
  exact equiv_iff.mp ⟨e.1, e.2⟩

theorem o_deal (G : S25600000.Idx → F .f32) :
    ((SparseCore.T d).loc main_v6 ↦{fullShare} G : sProp 𝕄)
      = bigSep Finset.univ fun c : Fin 2 => bigSep Finset.univ fun s : Fin 16 =>
          bigSep (Finset.range (nT (coordsV c s))) fun k => oP d (coordsV c s) G k := by
  have h := pointsTo_biUnion (nD := nD) (τ := τ) (sig := sig) (Ix := HIx 1) (Val := Elt F) (Name := ℕ) (U := UU) (Lvl := ℕ) (ℓ := (SparseCore.T d).loc main_v6) (q := fullShare) (f := G) (Finset.range 1250) oSets oSets_disjoint
  rw [oSets_cover, bigSep_congr fun b hb => oSets_split d b (Finset.mem_range.mp hb) G, blocks_deal] at h
  exact h

/-- The share of a table that subcore `s` of core `c` reads at. -/
def qT (c : Fin 2) (s : Fin 16) : PosShare TreeShare :=
  Transfers.dealOf (Transfers.dealOf fullShare (Finset.univ : Finset (Fin 2)) c) (Finset.univ : Finset (Fin 16)) s

theorem table_deal (ℓ : Loc nD τ sig) (f : Buf (Elt F) ℓ) :
    (ℓ ↦{fullShare} f : sProp 𝕄)
      = bigSep Finset.univ fun c : Fin 2 => bigSep Finset.univ fun s : Fin 16 => ℓ ↦{qT c s} f := by
  rw [Transfers.pointsTo_deal (Finset.univ : Finset (Fin 2)) Finset.univ_nonempty]
  exact bigSep_congr fun c _ => Transfers.pointsTo_deal (Finset.univ : Finset (Fin 16)) Finset.univ_nonempty _

/-- The four arrays of the call, whole, are the thirty-two subcores' parts of them. -/
theorem jobs_deal (X : S4800000.Idx → F .f32) (C : S32.Idx → F .f32) (N : S16.Idx → F .f32) (G : S25600000.Idx → F .f32) :
    (iprop(((SparseCore.T d).loc main_v3 ↦{fullShare} X) ∗ ((SparseCore.T d).loc main_v6 ↦{fullShare} G)
        ∗ ((SparseCore.T d).loc main_v5 ↦{fullShare} C) ∗ ((SparseCore.T d).loc main_arg4 ↦{fullShare} N)) : sProp 𝕄)
      = bigSep Finset.univ fun c : Fin 2 => bigSep Finset.univ fun s : Fin 16 => job d (coordsV c s) X C N (qT c s) (qT c s) G := by
  rw [x_deal, o_deal, table_deal ((SparseCore.T d).loc main_v5), table_deal ((SparseCore.T d).loc main_arg4)]
  unfold job
  simp only [bigSep_sep']

end Share

end Cert.Proof.KernelIdeal

end
-- ==== Proof.IdealLaunch.lean ====
/-
  The whole program: the host's operations before the call, the call on the thirty-two vector subcores, and the host's
  operations after it. Every weakly fair run ends, no fault is met, every semaphore counter is back at zero, and each
  of the host's arrays holds what the operations say, the call's result being the values of `res`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.IdealInner
public import Idealize.ShloMosaic.Lib.Batch
public import Idealize.ShloMosaic.Lib.Ring
public import proofs.«01_k».proof.Proof.IdealOuter
public import proofs.«01_k».proof.Proof.IdealLoop
public import proofs.«01_k».proof.Proof.IdealTile
public import proofs.«01_k».proof.Proof.IdealTask
public import proofs.«01_k».proof.Proof.IdealShare

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xM" => (Memref.whole Cert.KernelIdeal.main_v3_scv : Memref Cert.KernelIdeal.sig Kind.scVector Space.hbm Cert.KernelIdeal.S4800000 EltTy.f32)
local notation "clmM" => (Memref.whole Cert.KernelIdeal.main_v5_scv : Memref Cert.KernelIdeal.sig Kind.scVector Space.hbm Cert.KernelIdeal.S32 EltTy.f32)
local notation "nsM" => (Memref.whole Cert.KernelIdeal.main_arg4_scv : Memref Cert.KernelIdeal.sig Kind.scVector Space.hbm Cert.KernelIdeal.S16 EltTy.f32)
local notation "oM" => (Memref.whole Cert.KernelIdeal.main_v6_scv : Memref Cert.KernelIdeal.sig Kind.scVector Space.hbm Cert.KernelIdeal.S25600000 EltTy.f32)
local notation "x0M" => (Memref.whole Cert.KernelIdeal.cc0_scratch0 : Memref Cert.KernelIdeal.sig Kind.scVector Space.vmem Cert.KernelIdeal.S3840 EltTy.f32)
local notation "x1M" => (Memref.whole Cert.KernelIdeal.cc0_scratch1 : Memref Cert.KernelIdeal.sig Kind.scVector Space.vmem Cert.KernelIdeal.S3840 EltTy.f32)
local notation "a0M" => (Memref.whole Cert.KernelIdeal.cc0_scratch2 : Memref Cert.KernelIdeal.sig Kind.scVector Space.vmem Cert.KernelIdeal.S10240 EltTy.f32)
local notation "b0M" => (Memref.whole Cert.KernelIdeal.cc0_scratch3 : Memref Cert.KernelIdeal.sig Kind.scVector Space.vmem Cert.KernelIdeal.S10240 EltTy.f32)
local notation "a1M" => (Memref.whole Cert.KernelIdeal.cc0_scratch4 : Memref Cert.KernelIdeal.sig Kind.scVector Space.vmem Cert.KernelIdeal.S10240 EltTy.f32)
local notation "b1M" => (Memref.whole Cert.KernelIdeal.cc0_scratch5 : Memref Cert.KernelIdeal.sig Kind.scVector Space.vmem Cert.KernelIdeal.S10240 EltTy.f32)
local notation "cM" => (Memref.whole Cert.KernelIdeal.cc0_scratch6 : Memref Cert.KernelIdeal.sig Kind.scVector Space.vmem Cert.KernelIdeal.S32 EltTy.f32)
local notation "nM" => (Memref.whole Cert.KernelIdeal.cc0_scratch7 : Memref Cert.KernelIdeal.sig Kind.scVector Space.vmem Cert.KernelIdeal.S16 EltTy.f32)

local notation "s8" => (SemLoc.dma (SemArray.sem cc0_scratch8) : SemLoc Cert.KernelIdeal.sig)
local notation "s9" => (SemLoc.dma (SemArray.sem cc0_scratch9) : SemLoc Cert.KernelIdeal.sig)
local notation "s10" => (SemLoc.dma (SemArray.sem cc0_scratch10) : SemLoc Cert.KernelIdeal.sig)
local notation "s11" => (SemLoc.dma (SemArray.sem cc0_scratch11) : SemLoc Cert.KernelIdeal.sig)

open Idealize.ShloMosaic.StableHlo (held held_sub_split wp_seq after seq launchContents tcRefs)

section Launch

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host's lines -/

/-- The operations before the call. -/
def opsIn : List (HloOp τ sig (Elt F)) :=
  [StableHlo.unary main_arg0 main_v0 ((transpose S3x1600000 [1, 0] · transposes_S1600000x3_S3x1600000_1_0) : (⟨S1600000x3, .f32⟩ : BufTy).Contents (Elt F) → (⟨S3x1600000, .f32⟩ : BufTy).Contents (Elt F)),
   StableHlo.reshape main_v0 main_v1 (rfl : (.f32 : EltTy) = .f32) shapeCasts_S3x1600000_S3x12500x128,
   StableHlo.unary main_v1 main_v2 ((transpose S12500x3x128 [1, 0, 2] · transposes_S3x12500x128_S12500x3x128_1_0_2) : (⟨S3x12500x128, .f32⟩ : BufTy).Contents (Elt F) → (⟨S12500x3x128, .f32⟩ : BufTy).Contents (Elt F)),
   StableHlo.reshape main_v2 main_v3 (rfl : (.f32 : EltTy) = .f32) shapeCasts_S12500x3x128_S4800000,
   StableHlo.nullary main_cst (constant S_ .f32 0x00000000#32),
   StableHlo.unary main_cst main_v4 (broadcastInDim S4 ![] bcast_S_S4 : (⟨S_, .f32⟩ : BufTy).Contents (Elt F) → (⟨S4, .f32⟩ : BufTy).Contents (Elt F)),
   StableHlo.binary main_arg2 main_v4 main_v5 ((fun a b => concatenate S32 0 [⟨S28, a⟩, ⟨S4, b⟩] concatenates_S28_S4_S32_d0) : (⟨S28, .f32⟩ : BufTy).Contents (Elt F) → (⟨S4, .f32⟩ : BufTy).Contents (Elt F) → (⟨S32, .f32⟩ : BufTy).Contents (Elt F))]

/-- The operations after it. -/
def opsOut : List (HloOp τ sig (Elt F)) :=
  [StableHlo.reshape main_v6 main_v7 (rfl : (.f32 : EltTy) = .f32) shapeCasts_S25600000_S2x12500x8x128,
   StableHlo.unary main_v7 main_v8 ((transpose S12500x128x2x8 [1, 3, 0, 2] · transposes_S2x12500x8x128_S12500x128x2x8_1_3_0_2) : (⟨S2x12500x8x128, .f32⟩ : BufTy).Contents (Elt F) → (⟨S12500x128x2x8, .f32⟩ : BufTy).Contents (Elt F)),
   StableHlo.reshape main_v8 main_v9 (rfl : (.f32 : EltTy) = .f32) shapeCasts_S12500x128x2x8_S1600000x16]

theorem main_lines (d : Dev nD) :
    main (F := F) d = (seq opsIn >>= fun _ => ((sc (F := F)).run d 0 >>= fun _ => (seq opsOut >>= fun _ => pure ⟨⟩))) := by
  unfold main opsIn opsOut
  simp only [seq, hlo, bind_assoc, pure_bind]

/-- The host's arrays. -/
def hostRefs : Finset (DevRef τ sig) := (tcRefs τ sig).filter fun b => ¬ b.isScoped

omit [FloatOps F] in
theorem unscopedBufs_held (d : Dev nD) (W : Valuation τ sig (Elt F)) :
    (unscopedBufs d (fun b => W (Proc.devRef .tc b)) : sProp 𝕄) = held (d.tc : Thread nD τ) hostRefs W := by
  unfold unscopedBufs held hostRefs tcRefs
  rw [Finset.filter_map, BI.bigSep_map]
  rfl

theorem opsIn_sub : ∀ op ∈ opsIn (F := F), op.bufs ⊆ hostRefs := by
  unfold opsIn
  intro op h
  simp only [List.mem_cons, List.not_mem_nil, or_false] at h
  rcases h with rfl | rfl | rfl | rfl | rfl | rfl | rfl
  all_goals first
    | rw [StableHlo.unary_bufs] | rw [StableHlo.binary_bufs] | rw [StableHlo.reshape_bufs] | rw [StableHlo.nullary_bufs]
  all_goals decide
theorem opsOut_sub : ∀ op ∈ opsOut (F := F), op.bufs ⊆ hostRefs := by
  unfold opsOut
  intro op h
  simp only [List.mem_cons, List.not_mem_nil, or_false] at h
  rcases h with rfl | rfl | rfl
  all_goals first | rw [StableHlo.unary_bufs] | rw [StableHlo.reshape_bufs]
  all_goals decide
theorem opsIn_fresh : ∀ op ∈ opsIn (F := F), op.fresh = ∅ := by
  unfold opsIn; intro _ h; (repeat (cases h with | head => rfl | tail _ h => ?_)); exact nomatch h
theorem opsOut_fresh : ∀ op ∈ opsOut (F := F), op.fresh = ∅ := by
  unfold opsOut; intro _ h; (repeat (cases h with | head => rfl | tail _ h => ?_)); exact nomatch h

/-! ## The contents along the way -/

variable (m : (ℓ : Loc nD τ sig) → Buf (Elt F) ℓ) (ρ : Dev nD → PrngReg)

/-- The host's arrays when the call begins. -/
def V1 (d : Dev nD) : Valuation τ sig (Elt F) := after opsIn (launchContents m d)

abbrev X1 (d : Dev nD) : S4800000.Idx → F .f32 := V1 m d (Proc.devRef .tc main_v3)
abbrev C1 (d : Dev nD) : S32.Idx → F .f32 := V1 m d (Proc.devRef .tc main_v5)
abbrev N1 (d : Dev nD) : S16.Idx → F .f32 := V1 m d (Proc.devRef .tc main_arg4)
abbrev G1 (d : Dev nD) : S25600000.Idx → F .f32 := V1 m d (Proc.devRef .tc main_v6)
/-- The call's result. -/
abbrev R1 (d : Dev nD) : S25600000.Idx → F .f32 := res (kw (C1 m d) (N1 m d)) (X1 m d)

/-- The host's arrays when the call has ended. -/
def V2 (d : Dev nD) : Valuation τ sig (Elt F) := Function.update (V1 m d) (Proc.devRef .tc main_v6) (R1 m d)
/-- The host's arrays at the end. -/
def V3 (d : Dev nD) : Valuation τ sig (Elt F) := after opsOut (V2 m d)

/-! ## What the handshakes carry -/

/-- The part of subcore `s` of core `c`, the output at `G`. -/
abbrev jobV (d : Dev nD) (c : Fin 2) (s : Fin 16) (G : S25600000.Idx → F .f32) : sProp 𝕄 :=
  job d (coordsV c s) (X1 m d) (C1 m d) (N1 m d) (qT c s) (qT c s) G

/-- The one call: each core takes its sixteen subcores' parts and brings them back, the output's blocks at the result. -/
def P : (K (F := F)).Pay (nD := nD) (Val := Elt F) (Name := ℕ) (U := UU) where
  st := fun q d c => match q with | 0 => bigSep Finset.univ fun s : Fin 16 => jobV m d c s (G1 m d)
  dn := fun q d c => match q with | 0 => bigSep Finset.univ fun s : Fin 16 => jobV m d c s (R1 m d)
  go := fun q d c i => match q with | 0 => jobV m d c i (G1 m d)
  td := fun q d c i => match q with | 0 => jobV m d c i (R1 m d)
  x := fun _ _ => iprop(emp)

instance job_storable (d : Dev nD) (i : grid0.Coords) (X : S4800000.Idx → F .f32) (C : S32.Idx → F .f32) (N : S16.Idx → F .f32)
    (qc qn : PosShare TreeShare) (G : S25600000.Idx → F .f32) : Storable (upEmb : UEmb _ 𝕄) (job d i X C N qc qn G) := by
  unfold job xP oP; infer_instance

instance P_storable : (P (F := F) m).IsStorable where
  st q d c := match q with
    | 0 => (inferInstance : Storable (upEmb : UEmb _ 𝕄) (bigSep Finset.univ fun s : Fin 16 => jobV m d c s (G1 m d)))
  dn q d c := match q with
    | 0 => (inferInstance : Storable (upEmb : UEmb _ 𝕄) (bigSep Finset.univ fun s : Fin 16 => jobV m d c s (R1 m d)))
  go q d c i := match q with
    | 0 => (inferInstance : Storable (upEmb : UEmb _ 𝕄) (jobV m d c i (G1 m d)))
  td q d c i := match q with
    | 0 => (inferInstance : Storable (upEmb : UEmb _ 𝕄) (jobV m d c i (R1 m d)))

/-! ## The launch theorem's obligations -/

variable [∀ e, Nonempty (Elt F e)]

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__body (coordsV c s)
          xM (Memref.isWhole_whole _) clmM (Memref.isWhole_whole _) nsM (Memref.isWhole_whole _) oM (Memref.isWhole_whole _)
          x0M (Memref.isWhole_whole _) x1M (Memref.isWhole_whole _) a0M (Memref.isWhole_whole _) b0M (Memref.isWhole_whole _)
          a1M (Memref.isWhole_whole _) b1M (Memref.isWhole_whole _) cM (Memref.isWhole_whole _) nM (Memref.isWhole_whole _)
          cc0_scratch8 cc0_scratch9 cc0_scratch10 cc0_scratch11 cc0_scoped0 cc0_scoped1) ⟨⟩ c s := rfl

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (X1 m d) (C1 m d) (N1 m d) (G1 m d) (qT c i) (qT c i) O W hO).trans
    (wp_mono Idealize.ShloMosaic.frame _ _ fun _ => obl_post)

theorem vecSplit : (K (F := F)).VecSplit' (P m) 0 := by
  intro d c
  show (bigSep Finset.univ fun s : Fin 16 => jobV m d c s (G1 m d)) ⊢ |={Set.univ}=> iprop(
      (bigSep Finset.univ fun s : Fin 16 => jobV m d c s (G1 m d))
      ∗ ((bigSep Finset.univ fun s : Fin 16 => jobV m d c s (R1 m d)) -∗ (bigSep Finset.univ fun s : Fin 16 => jobV m d c s (R1 m d))))
  iintro H; imodintro
  isplitl [H]; · iexact H
  iintro H; iexact H

/-! ## The launch element of the ghost state -/

def u₀ : UU := (Rounds.initOf (K (F := F)).hsCells (K (F := F)).hsToks, 1)

omit [∀ e, Nonempty (Elt F e)] in
theorem bigSep_emp' {I : Type} (s : Finset I) : (bigSep s fun _ => iprop(emp)) = (iprop(emp) : sProp 𝕄) := bigSep_emp_const s

omit [∀ e, Nonempty (Elt F e)] in
theorem hu₀ : (ownU (u₀ (F := F)) : sProp 𝕄)
    ⊢ |={Set.univ}=> iprop(BI.own (EH (Rounds.initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the host -/

abbrev v3' : DevRef τ sig := Proc.devRef .tc (main_v3 : Ref sig .tc)
abbrev v5' : DevRef τ sig := Proc.devRef .tc (main_v5 : Ref sig .tc)
abbrev v6' : DevRef τ sig := Proc.devRef .tc (main_v6 : Ref sig .tc)
abbrev a4' : DevRef τ sig := Proc.devRef .tc (main_arg4 : Ref sig .tc)

omit [∀ e, Nonempty (Elt F e)] [FloatOps F] in
/-- The host's arrays are the call's four and the rest. -/
theorem held_call (d : Dev nD) (W : Valuation τ sig (Elt F)) :
    (held (d.tc : Thread nD τ) hostRefs W : sProp 𝕄)
      = iprop((((SparseCore.T d).loc main_v3 ↦{fullShare} W v3') ∗ ((SparseCore.T d).loc main_v6 ↦{fullShare} W v6')
          ∗ ((SparseCore.T d).loc main_v5 ↦{fullShare} W v5') ∗ ((SparseCore.T d).loc main_arg4 ↦{fullShare} W a4'))
        ∗ held (d.tc : Thread nD τ) (hostRefs \ {v3', v6', v5', a4'}) W) := by
  rw [held_sub_split (d.tc : Thread nD τ) (T := {v3', v6', v5', a4'}) (S := hostRefs) (by decide) W]
  congr 1
  unfold held
  rw [SparseCore.bigSep_insert' (by decide), SparseCore.bigSep_insert' (by decide), SparseCore.bigSep_insert' (by decide), bigSep_singleton]

omit [∀ e, Nonempty (Elt F e)] in
theorem call_in (d : Dev nD) :
    (held (d.tc : Thread nD τ) hostRefs (V1 m d) : sProp 𝕄)
      = iprop((bigSep Finset.univ fun c : Fin ((K (F := F)).nCore 0) => (P m).st 0 d c)
          ∗ held (d.tc : Thread nD τ) (hostRefs \ {v3', v6', v5', a4'}) (V1 m d)) := by
  rw [held_call]
  exact congrArg (fun A : sProp 𝕄 => iprop(A ∗ _)) (jobs_deal d (X1 m d) (C1 m d) (N1 m d) (G1 m d))

omit [∀ e, Nonempty (Elt F e)] in
theorem call_out (d : Dev nD) :
    (held (d.tc : Thread nD τ) hostRefs (V2 m d) : sProp 𝕄)
      = iprop((bigSep Finset.univ fun c : Fin ((K (F := F)).nCore 0) => (P m).dn 0 d c)
          ∗ held (d.tc : Thread nD τ) (hostRefs \ {v3', v6', v5', a4'}) (V1 m d)) := by
  rw [held_call, StableHlo.held_congr (d.tc : Thread nD τ) (V := V2 m d) (V' := V1 m d) (S := hostRefs \ {v3', v6', v5', a4'})
    (fun b hb => Function.update_of_ne (fun e => by subst e; revert hb; decide) _ _)]
  refine congrArg (fun A : sProp 𝕄 => iprop(A ∗ _)) (Eq.trans ?_ (jobs_deal d (X1 m d) (C1 m d) (N1 m d) (R1 m d)))
  rw [show V2 m d v3' = V1 m d v3' from Function.update_of_ne (by decide) _ _, show V2 m d v5' = V1 m d v5' from Function.update_of_ne (by decide) _ _,
    show V2 m d a4' = V1 m d a4' from Function.update_of_ne (by decide) _ _, show V2 m d v6' = R1 m d from Function.update_self _ _ _]

/-- What @main leaves: every array of the host's at its last contents. -/
abbrev FIN (d : Dev nD) : sProp 𝕄 := held (d.tc : Thread nD τ) hostRefs (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp (M := 𝕄) Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_lines]
  iintro ⟨#Hctx, Hst, ⟨Hb, Hheld, Hts, -⟩, -⟩
  ihave Hheld := (Entails.of_eq (unscopedBufs_held (F := F) d (launchContents m d))) $$ Hheld
  iapply (wp_seq 𝒱 none Set.univ d hostRefs _ opsIn opsIn_sub opsIn_fresh (launchContents m d)) $$ [Hb Hheld]
  · isplitl [Hb] <;> iassumption
  iintro ⟨Hb, Hheld⟩
  ihave Hheld := (Entails.of_eq (call_in (F := F) m d)) $$ [Hheld]
  · iexact Hheld
  icases Hheld with ⟨Hjobs, Hrest⟩
  rw [wp_bind]
  iapply ((K (F := F)).wp_run (D (F := F)) 𝒱 (EH := EH) (P := P m) κ d 0) $$ [Hst Hjobs Hb Hrest Hts]
  isplitr; · iexact Hctx
  isplitl [Hst]; · iexact Hst
  isplitl [Hjobs]; · iexact Hjobs
  iintro ⟨Hst, Hdn⟩
  ihave Hheld := (Entails.of_eq (call_out (F := F) m d).symm) $$ [Hdn Hrest]
  · isplitl [Hdn] <;> iassumption
  iapply (wp_seq 𝒱 none Set.univ d hostRefs _ opsOut opsOut_sub opsOut_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ hostRefs, s'.mem.mem (d, b) = V3 m d b

omit [∀ e, Nonempty (Elt F e)] in
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) hostRefs) $$ [HSI H]
  · isplitl [HSI]; · iexact HSI
    iexact H
  ipureintro
  exact h

/-! ## The program's run -/

/-- Every weakly fair run ends with each array of the host's at its last contents and every counter at zero. -/
theorem run_main : θ_run (Cert.KernelIdeal.defs (F := F)) (Cert.KernelIdeal.threads (F := F)) ⟨m, fun _ => 0, ρ⟩
    fun r => (∀ (d : Dev nD), ∀ b ∈ hostRefs, r.2.mem (d, b) = V3 m d b) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Launch

end Cert.Proof.KernelIdeal

end
-- ==== Proof.IdealEnds.lean ====
/-
  What the host finds at the end: its arguments as they were, and the result array, which is the call's flat result cut
  into halves, blocks of 128 points and rows, and turned so that a row holds one point.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.IdealInner
public import Idealize.ShloMosaic.Lib.Batch
public import Idealize.ShloMosaic.Lib.Ring
public import proofs.«01_k».proof.Proof.IdealOuter
public import proofs.«01_k».proof.Proof.IdealLoop
public import proofs.«01_k».proof.Proof.IdealTile
public import proofs.«01_k».proof.Proof.IdealTask
public import proofs.«01_k».proof.Proof.IdealShare
public import proofs.«01_k».proof.Proof.IdealLaunch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.StableHlo (held held_sub_split wp_seq after seq launchContents tcRefs)

section Ends

variable [FloatOps F] (m : (ℓ : Loc nD τ sig) → Buf (Elt F) ℓ) (ρ : Dev nD → PrngReg)

/-- An array that no operation of the host's writes, and that is not the call's result, ends as it began. -/
theorem kept (d : Dev nD) (b : Ref sig .tc) (h : b ∈ [main_arg0, main_arg1, main_arg2, main_arg3, main_arg4]) :
    V3 m d (Proc.devRef .tc b) = m ((d.tc : Thread nD τ).loc b) := by
  simp only [List.mem_cons, List.not_mem_nil, or_false] at h
  rcases h with rfl | rfl | rfl | rfl | rfl
  all_goals
    unfold V3 opsOut; after_results
    unfold V2; rw [Function.update_of_ne (by decide)]
    unfold V1 opsIn; after_results <;> rfl

theorem x_contents (d : Dev nD) : X1 m d = shapeCast S4800000 (transpose S12500x3x128 [1, 0, 2]
      (shapeCast S3x12500x128 (transpose S3x1600000 [1, 0] (m ((d.tc : Thread nD τ).loc main_arg0)) transposes_S1600000x3_S3x1600000_1_0)
        shapeCasts_S3x1600000_S3x12500x128) transposes_S3x12500x128_S12500x3x128_1_0_2) shapeCasts_S12500x3x128_S4800000 := by
  unfold X1 V1 opsIn; after_results <;> rfl

theorem clm_contents (d : Dev nD) : C1 m d = concatenate S32 0 [⟨S28, m ((d.tc : Thread nD τ).loc main_arg2)⟩,
      ⟨S4, broadcastInDim S4 ![] bcast_S_S4 (constant S_ .f32 0x00000000#32)⟩] concatenates_S28_S4_S32_d0 := by
  unfold C1 V1 opsIn; after_results <;> rfl

theorem ns_contents (d : Dev nD) : N1 m d = m ((d.tc : Thread nD τ).loc main_arg4) := by
  unfold N1 V1 opsIn; after_results <;> rfl

theorem result_contents (d : Dev nD) : V3 m d (Proc.devRef .tc main_v9) = shapeCast S1600000x16
      (transpose S12500x128x2x8 [1, 3, 0, 2] (shapeCast S2x12500x8x128 (R1 m d) shapeCasts_S25600000_S2x12500x8x128)
        transposes_S2x12500x8x128_S12500x128x2x8_1_3_0_2) shapeCasts_S12500x128x2x8_S1600000x16 := by
  have e : V2 m d (Proc.devRef .tc main_v6) = R1 m d := Function.update_self _ _ _
  unfold V3 opsOut; after_results
  rw [e]; rfl

variable [∀ e, Nonempty (Elt F e)]

/-- Every weakly fair run ends with the result array at its last contents, the arguments unchanged and the counters at zero. -/
theorem ends : θ_run (Cert.KernelIdeal.defs (F := F)) (Cert.KernelIdeal.threads (F := F)) ⟨m, fun _ => 0, ρ⟩
    fun r => (∀ c : Dev nD, r.2.mem ((c.tc : Thread nD τ).loc main_v9) = V3 m c (Proc.devRef .tc main_v9)
        ∧ ∀ b ∈ [main_arg0, main_arg1, main_arg2, main_arg3, main_arg4], r.2.mem ((c.tc : Thread nD τ).loc b) = m ((c.tc : Thread nD τ).loc b))
      ∧ r.2.sem = fun _ => 0 :=
  (θ_run _ _ _).mono (fun r h => ⟨fun c => ⟨h.1 c (Proc.devRef .tc main_v9) (by decide), fun b hb =>
    (h.1 c (Proc.devRef .tc b) (by
      simp only [List.mem_cons, List.not_mem_nil, or_false] at hb
      rcases hb with rfl | rfl | rfl | rfl | rfl <;> decide)).trans (kept m c b hb)⟩, h.2⟩) (run_main m ρ)

end Ends

end Cert.Proof.KernelIdeal

end
-- ==== Proof.Point.lean ====
/-
  The kernel's result read at one point and one slot: it is that slot's value of the point's three coordinates under
  the twenty-eight weights, wherever the point's words lie in the flat arrays the kernel reads and writes.
-/
module

public import proofs.«01_k».proof.Defs
public import proofs.«01_k».proof.Proof.IdealEnds
public import Idealize.ShloMosaic.Lib.Pointwise
public import Idealize.ShloMosaic.Lib.Tactic.IndexArith

@[expose] public section

set_option maxRecDepth 16384

noncomputable section

namespace Cert.Proof.KernelIdeal

open Cert.KernelIdeal Cert.KernelIdeal.Gen
open Idealize.ShloMosaic

variable {F : FTy → Type} [FloatOps F]

theorem ix_eq {N : ℕ} [NeZero N] {n : ℕ} (h : n < N) : ix N n = ix1 ⟨n, h⟩ :=
  KernelIdeal.idx_ext (Nat.mod_eq_of_lt h)

/-- Where coordinate `a` of point `p` lies in the flat input. -/
theorem x_at (A : FVec F S1600000x3 .f32) (p : Fin 1600000) (a : Fin 3) {n : ℕ} (hn : n = p.val / 128 * 384 + p.val % 128 + a.val * 128) :
    (shapeCast S4800000 (transpose S12500x3x128 [1, 0, 2]
      (shapeCast S3x12500x128 (transpose S3x1600000 [1, 0] A transposes_S1600000x3_S3x1600000_1_0)
        shapeCasts_S3x1600000_S3x12500x128) transposes_S3x12500x128_S12500x3x128_1_0_2) shapeCasts_S12500x3x128_S4800000) (ix 4800000 n) = A (ix2 p a) := by
  have hp := p.isLt
  have ha := a.isLt
  rw [ix_eq (by omega : n < 4800000)]
  pointwise
  have e1 : n / 384 * 128 + n % 128 = p.val := by omega
  have e2 : n / 128 % 3 = a.val := by omega
  simp only [e1, e2]

/-- Where slot `s` of point `p` lies in the flat output. -/
theorem out_pos (R : FVec F S25600000 .f32) (p : Fin 1600000) (s : Fin 16) :
    (shapeCast S1600000x16
      (transpose S12500x128x2x8 [1, 3, 0, 2] (shapeCast S2x12500x8x128 R shapeCasts_S25600000_S2x12500x8x128)
        transposes_S2x12500x8x128_S12500x128x2x8_1_3_0_2) shapeCasts_S12500x128x2x8_S1600000x16) (ix2 p s)
      = R (ix 25600000 (s.val / 8 * 12800000 + p.val / 128 * 1024 + s.val % 8 * 128 + p.val % 128)) := by
  have hp := p.isLt
  have hs := s.isLt
  rw [ix_eq (by omega)]
  pointwise

/-- The flat output at row `r` of half `h`, point `l` of piece `q` of block `b`. -/
theorem res_pos (w : Fin 28 → F .f32) (X : S4800000.Idx → F .f32) (h : Fin 2) (b q r l : ℕ) (hb : b < 1250) (hq : q < 10) (hr : r < 8) (hl : l < 128) :
    res w X (ix 25600000 (12800000 * h.val + 10240 * b + (1024 * q + 128 * r + l)))
      = lane w (X (ix 4800000 (3840 * b + 384 * q + l))) (X (ix 4800000 (3840 * b + 384 * q + l + 128)))
          (X (ix 4800000 (3840 * b + 384 * q + l + 256))) ⟨8 * h.val + r, by omega⟩ := by
  have ej : (ix 10240 (1024 * q + 128 * r + l) 0).val = 1024 * q + 128 * r + l := by rw [ix_val]; omega
  have e := res_at w X h b hb (ix 10240 (1024 * q + 128 * r + l))
  rw [ej] at e
  rw [← e]
  unfold outAt blk
  simp only [ej, ix_val]
  have d1 : (1024 * q + 128 * r + l) / 1024 = q := by omega
  have d2 : (1024 * q + 128 * r + l) % 128 = l := by omega
  have d3 : (1024 * q + 128 * r + l) / 128 % 8 = r := by omega
  simp only [d1, d2, d3]
  have n0 : b * 3840 + (q * 384 + l) % 3840 = 3840 * b + 384 * q + l := by omega
  have n1 : b * 3840 + (q * 384 + l + 128) % 3840 = 3840 * b + 384 * q + l + 128 := by omega
  have n2 : b * 3840 + (q * 384 + l + 256) % 3840 = 3840 * b + 384 * q + l + 256 := by omega
  rw [n0, n1, n2]

end Cert.Proof.KernelIdeal

end
-- ==== Proof.Equal.lean ====
/-
  The two results are one array. At a point and a slot the kernel's value is its weighted products under weights that are
  coefficient times normalisation, and the reference's is the sum of the slot's monomials times the normalisation; over the
  reals, off the zero first coordinate, these are equal.
-/
module

public import proofs.«01_k».proof.Defs
public import proofs.«01_k».proof.Proof.Ref
public import proofs.«01_k».proof.Proof.Tame
public import proofs.«01_k».proof.Proof.Point

@[expose] public section

set_option maxRecDepth 16384

noncomputable section

namespace Cert.Proof.KernelIdeal

open Cert.KernelIdeal Cert.KernelIdeal.Gen
open Idealize.ShloMosaic

/-- The array of points the launch reads, at one coordinate of a point. -/
theorem point_at (m : (ℓ : Loc nD τ sig) → Buf (Elt Ideal) ℓ) (d : Dev nD) {A0 : FVec Ideal S1600000x3 .f32}
    (h0 : m ((d.tc : Thread nD τ).loc main_arg0) = A0) (p : Fin 1600000) (a : Fin 3) {n : ℕ} (hn : n = p.val / 128 * 384 + p.val % 128 + a.val * 128) :
    X1 m d (ix 4800000 n) = A0 (ix2 p a) := by
  rw [x_contents, h0]
  exact x_at A0 p a hn

/-- The kernel's result at a point and a slot. -/
theorem result_at (m : (ℓ : Loc nD τ sig) → Buf (Elt Ideal) ℓ) (d : Dev nD) {A0 : FVec Ideal S1600000x3 .f32}
    (h0 : m ((d.tc : Thread nD τ).loc main_arg0) = A0) (p : Fin 1600000) (s : Fin 16) :
    (V3 m d (Proc.devRef .tc main_v9) : FVec Ideal S1600000x16 .f32) (ix2 p s)
      = lane (kw (C1 m d) (N1 m d)) (A0 (ix2 p 0)) (A0 (ix2 p 1)) (A0 (ix2 p 2)) s := by
  have hp := p.isLt
  have hs := s.isLt
  rw [result_contents]
  refine (out_pos (R1 m d) p s).trans ?_
  have e := res_pos (kw (C1 m d) (N1 m d)) (X1 m d) ⟨s.val / 8, by omega⟩ (p.val / 1280) (p.val / 128 % 10) (s.val % 8) (p.val % 128)
    (by omega) (by omega) (by omega) (by omega)
  have en : s.val / 8 * 12800000 + p.val / 128 * 1024 + s.val % 8 * 128 + p.val % 128
      = 12800000 * (s.val / 8) + 10240 * (p.val / 1280) + (1024 * (p.val / 128 % 10) + 128 * (s.val % 8) + p.val % 128) := by omega
  rw [en]
  refine e.trans ?_
  rw [point_at m d h0 p 0 (by show _ = _ + 0 * 128; omega), point_at m d h0 p 1 (by show _ = _ + 1 * 128; omega),
    point_at m d h0 p 2 (by show _ = _ + 2 * 128; omega)]
  congr 1
  apply Fin.ext
  show 8 * (s.val / 8) + s.val % 8 = s.val
  omega

/-- The kernel's weights: a term's coefficient times its slot's normalisation. -/
theorem weight_at (m : (ℓ : Loc nD τ sig) → Buf (Elt Ideal) ℓ) (d : Dev nD) {A2 : FVec Ideal S28 .f32} {A4 : FVec Ideal S16 .f32}
    (h2 : m ((d.tc : Thread nD τ).loc main_arg2) = A2) (h4 : m ((d.tc : Thread nD τ).loc main_arg4) = A4) (t : Fin 28) :
    kw (C1 m d) (N1 m d) t = A2 (ix1 t) * A4 (ix1 (Fin.ofNat 16 (slot t))) := by
  have ht := t.isLt
  unfold kw
  rw [Ideal.scalar_mulf_def, clm_contents, ns_contents, h2, h4, ix_eq (by omega : t.val < 32)]
  congr 1
  · pointwise
  · congr 1
    revert t
    decide

/-- The kernel's result is the reference's, of the same arguments. -/
theorem same (m : (ℓ : Loc nD τ sig) → Buf (Elt Ideal) ℓ) (d : Dev nD) {A0 : FVec Ideal S1600000x3 .f32} {A1 : IVec S28 32} {A2 : FVec Ideal S28 .f32} {A3 : IVec S3x28 32} {A4 : FVec Ideal S16 .f32}
    (h0 : m ((d.tc : Thread nD τ).loc main_arg0) = A0) (h2 : m ((d.tc : Thread nD τ).loc main_arg2) = A2) (h4 : m ((d.tc : Thread nD τ).loc main_arg4) = A4)
    (H : Tame.Says A0 A1 A2 A3 A4) : (V3 m d (Proc.devRef .tc main_v9) : FVec Ideal S1600000x16 .f32) = Ref.out A0 A1 A2 A3 A4 := by
  funext j
  obtain ⟨p, s, rfl⟩ : ∃ (p : Fin 1600000) (s : Fin 16), j = ix2 p s := ⟨j 0, j 1, eq_ix2 j⟩
  rw [result_at m d h0, Ref.out_at]
  obtain ⟨x, hx⟩ := H.xyz p 0
  obtain ⟨y, hy⟩ := H.xyz p 1
  obtain ⟨z, hz⟩ := H.xyz p 2
  choose clm hclm using H.clm
  choose ns hns using H.ns
  have hx0 : x ≠ 0 := fun e => H.x_ne p (by rw [hx, e]; rfl)
  have ew : kw (C1 m d) (N1 m d) = fun t => ((clm t * ns (Fin.ofNat 16 (slot t)) : ℝ) : EReal) := by
    funext t
    rw [weight_at m d h2 h4, hclm, hns, EReal.coe_mul]
  have et : ∀ t : Fin 28, (if (A1 (ix1 t)).toInt = (s.val : Int) then Ref.term A0 A2 A3 p t else 0)
      = ((if slot t = s.val then mono x y z t * clm t else 0 : ℝ) : EReal) := by
    intro t
    rw [H.dst t]
    by_cases hs : slot t = s.val
    · rw [if_pos (by exact_mod_cast hs), if_pos hs]
      unfold Ref.term mono
      simp only [H.pows, hx, hy, hz, hclm, Ideal.pow_coe_coe, ← EReal.coe_mul, Real.rpow_eq_pow, Real.rpow_intCast]
    · rw [if_neg (by exact_mod_cast hs), if_neg hs]; rfl
  rw [ew, hx, hy, hz, lane_real _ x y z hx0, slots_real clm ns x y z hx0, hns, EReal.coe_mul]
  congr 1
  rw [Finset.sum_congr rfl fun t _ => et t]
  exact (map_sum (⟨⟨Real.toEReal, EReal.coe_zero⟩, EReal.coe_add⟩ : ℝ →+ EReal) _ _)

end Cert.Proof.KernelIdeal

end
-- ==== Proof.lean ====
/-
  The claim, assembled: the two frames of the kernel are its run's ends, the reference's frame is its operations' composed
  run, and the value claim is the kernel's result read as the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_tame
public import proofs.«01_k».proof.Proof.Ends
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The kernel at the bits: it runs, keeps its arguments and ends with every counter at zero. -/
theorem frame_kernel : @Cert.quiescent_Kernel Cert.Kernel.Gen.facts := fun m g _ =>
  (θ_run _ _ _).mono (fun _ h => ⟨fun c =>
    ⟨(h.1 c).2 _ (by simp), (h.1 c).2 _ (by simp), (h.1 c).2 _ (by simp), (h.1 c).2 _ (by simp), (h.1 c).2 _ (by simp)⟩, h.2⟩)
    (Kernel.ends (F := Bits) m g)

/-- The kernel over the extended reals, likewise. -/
theorem frame_ideal : @Cert.quiescent_KernelIdeal Cert.KernelIdeal.Gen.facts := fun m g _ =>
  (θ_run _ _ _).mono (fun _ h => ⟨fun c =>
    ⟨(h.1 c).2 _ (by simp), (h.1 c).2 _ (by simp), (h.1 c).2 _ (by simp), (h.1 c).2 _ (by simp), (h.1 c).2 _ (by simp)⟩, h.2⟩)
    (KernelIdeal.ends (F := Ideal) m g)

/-- The reference over the extended reals: it uses no semaphore. -/
theorem frame_reference : @Cert.quiescent_ReferenceIdeal Cert.ReferenceIdeal.Gen.facts := fun m g _ =>
  (θ_run _ _ _).mono (fun r h => ⟨fun c => (h c).2, sem_eq_zero_of_no_sems (by decide) r.2⟩)
    (Cert.ReferenceIdeal.Value.run (F := Ideal) m g)

/-- Where the precondition holds, the kernel's result is the reference's. -/
theorem value : @Cert.algebraic_KernelIdeal_ReferenceIdeal_pre_tame Cert.KernelIdeal.Gen.facts Cert.ReferenceIdeal.Gen.facts Cert.Pre_tame.Gen.facts := by
  intro m g m' g' hpre hagree
  refine ⟨fun c => KernelIdeal.V3 m c (Proc.devRef .tc Cert.KernelIdeal.main_v9), ?_, ?_⟩
  · exact (θ_run _ _ _).mono (fun _ h c => ⟨(h.1 c).1,
      (h.1 c).2 _ (by simp), (h.1 c).2 _ (by simp), (h.1 c).2 _ (by simp), (h.1 c).2 _ (by simp), (h.1 c).2 _ (by simp)⟩)
      (KernelIdeal.ends (F := Ideal) m g)
  · refine (θ_run _ _ _).mono (fun _ h c => ⟨(h c).1.trans ?_, (h c).2⟩) (Cert.ReferenceIdeal.Value.run (F := Ideal) m' g')
    obtain ⟨e0, e1, e2, e3, e4⟩ := hagree c
    rw [e0, e1, e2, e3, e4]
    exact (KernelIdeal.same m c rfl rfl rfl (Tame.elements (hpre c))).symm

theorem claim : Cert.Claim := ⟨Cert.Kernel.Gen.facts, Cert.KernelIdeal.Gen.facts, Cert.ReferenceIdeal.Gen.facts, Cert.Pre_tame.Gen.facts,
  frame_kernel, frame_ideal, fun m g _ => frame_ideal m g trivial, frame_reference, fun m g _ => frame_reference m g trivial, trivial, value⟩

end Cert.Proof

end
